-- ==== Defs.lean ====
def Pre_Kernel (m : (ℓ : Loc Cert.Kernel.nD Cert.Kernel.τ Cert.Kernel.sig) → Buf (Elt Bits) ℓ) : Prop :=
  True

def Pre_Kernel_finite_no_tie [hPre_finite_no_tie : Cert.Pre_finite_no_tie.Facts] (m : (ℓ : Loc Cert.Kernel.nD Cert.Kernel.τ Cert.Kernel.sig) → Buf (Elt Bits) ℓ) : Prop :=
  ∀ c : Dev Cert.Kernel.nD,
    (Cert.Pre_finite_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_finite_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_finite_no_tie [hKernel : Cert.Kernel.Facts] [hPre_finite_no_tie : Cert.Pre_finite_no_tie.Facts] : Prop :=
  ∀ (m : (ℓ : Loc Cert.Kernel.nD Cert.Kernel.τ Cert.Kernel.sig) → Buf (Elt Bits) ℓ) (g : Dev Cert.Kernel.nD → PrngReg), Pre_Kernel_finite_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_Kernel_pre_finite_no_tie (hKernel := hKernel) (hPre_finite_no_tie := hPre_finite_no_tie)
    ∧ quiescent_KernelIdeal (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal (hKernelIdeal := hKernelIdeal) (hReferenceIdeal := hReferenceIdeal) (hPre_finite_no_tie := hPre_finite_no_tie)
-- ==== Pre_finite_no_tie.lean ====
abbrev S1x20000x85 : Shape := ⟨3, ![1, 20000, 85]⟩
abbrev S1x20000x980 : Shape := ⟨3, ![1, 20000, 980]⟩
abbrev S1x5x160x160 : Shape := ⟨4, ![1, 5, 160, 160]⟩
abbrev S100x5x56x56 : Shape := ⟨4, ![100, 5, 56, 56]⟩
abbrev S1x100x80 : Shape := ⟨3, ![1, 100, 80]⟩
abbrev S100x80 : Shape := ⟨2, ![100, 80]⟩
abbrev S1x100x1 : Shape := ⟨3, ![1, 100, 1]⟩
abbrev S100x1 : Shape := ⟨2, ![100, 1]⟩
abbrev S_ : Shape := ⟨0, ![]⟩
abbrev S100 : Shape := ⟨1, ![100]⟩
abbrev S1x100x980 : Shape := ⟨3, ![1, 100, 980]⟩
abbrev S100x980 : Shape := ⟨2, ![100, 980]⟩

class Facts : Prop where
  slices_S1x20000x85_S1x100x80_0_100_5 : S1x20000x85.Slices ![0, 100, 5] S1x100x80
  shapeCasts_S1x100x80_S100x80 : S1x100x80.ShapeCasts S100x80
  slices_S1x20000x85_S1x100x1_0_100_4 : S1x20000x85.Slices ![0, 100, 4] S1x100x1
  shapeCasts_S1x100x1_S100x1 : S1x100x1.ShapeCasts S100x1
  bcast_S100x1_S100x80_0_1 : S100x1.BroadcastsInDim S100x80 (![0, 1] : Fin 2 → Fin S100x80.rank)
  reducesTo_S100x80_S100_d1 : S100x80.ReducesTo [1] S100
  h_S_ : 0 < S_.numel
  bcast_S100_S100x1_0 : S100.BroadcastsInDim S100x1 (![0] : Fin 1 → Fin S100x1.rank)
  natLt_1_32 : 1 < 32
  bcast_S_S100 : S_.BroadcastsInDim S100 (![] : Fin 0 → Fin S100.rank)
  slices_S1x20000x980_S1x100x980_0_100_0 : S1x20000x980.Slices ![0, 100, 0] S1x100x980
  shapeCasts_S1x100x980_S100x980 : S1x100x980.ShapeCasts S100x980
  bcast_S_S100x980 : S_.BroadcastsInDim S100x980 (![] : Fin 0 → Fin S100x980.rank)

variable [Facts]

def fn {F : FTy → Type} [FloatOps F] (main_arg0 : FVec F S1x20000x85 .f32) (main_arg1 : FVec F S1x20000x980 .f32) (main_arg2 : FVec F S1x5x160x160 .f32) (main_arg3 : FVec F S100x5x56x56 .f32) : IVec S100 1 × IVec S100x980 1 :=
  let main_v0 : FVec F S1x100x80 .f32 := (extractStridedSlice S1x100x80 ![0, 100, 5] · slices_S1x20000x85_S1x100x80_0_100_5) main_arg0
  let main_v1 : FVec F S100x80 .f32 := shapeCast S100x80 main_v0 shapeCasts_S1x100x80_S100x80
  let main_v2 : FVec F S1x100x1 .f32 := (extractStridedSlice S1x100x1 ![0, 100, 4] · slices_S1x20000x85_S1x100x1_0_100_4) main_arg0
  let main_v3 : FVec F S100x1 .f32 := shapeCast S100x1 main_v2 shapeCasts_S1x100x1_S100x1
  let main_v4 : FVec F S100x80 .f32 := broadcastInDim S100x80 ![0, 1] bcast_S100x1_S100x80_0_1 main_v3
  let main_v5 : FVec F S100x80 .f32 := mulf main_v1 main_v4
  let main_cst : FVec F S_ .f32 := constant S_ .f32 0xFF800000#32
  let main_v6 : FVec F S100 .f32 := (fun x v => Host.reduce FloatOps.maximumf x v reducesTo_S100x80_S100_d1 h_S_) main_v5 main_cst
  let main_v7 : FVec F S100x1 .f32 := broadcastInDim S100x1 ![0] bcast_S100_S100x1_0 main_v6
  let main_v8 : FVec F S100x80 .f32 := broadcastInDim S100x80 ![0, 1] bcast_S100x1_S100x80_0_1 main_v7
  let main_v9 : IVec S100x80 1 := cmpf .oeq main_v5 main_v8
  let main_v10 : IVec S100x80 32 := (extui 32 · natLt_1_32) main_v9
  let main_c : IVec S_ 32 := constantI S_ 32 0#32
  let main_v11 : IVec S100 32 := (fun x v => Host.reduce IntOp.addi x v reducesTo_S100x80_S100_d1 h_S_) main_v10 main_c
  let main_c_0 : IVec S_ 32 := constantI S_ 32 1#32
  let main_v12 : IVec S100 32 := broadcastInDim S100 ![] bcast_S_S100 main_c_0
  let main_v13 : IVec S100 1 := cmpi .eq main_v11 main_v12
  let main_v14 : FVec F S1x100x980 .f32 := (extractStridedSlice S1x100x980 ![0, 100, 0] · slices_S1x20000x980_S1x100x980_0_100_0) main_arg1
  let main_v15 : FVec F S100x980 .f32 := shapeCast S100x980 main_v14 shapeCasts_S1x100x980_S100x980
  let main_v16 : FVec F S100x980 .f32 := Host.absf main_v15
  let main_cst_1 : FVec F S_ .f32 := constant S_ .f32 0x7F800000#32
  let main_v17 : FVec F S100x980 .f32 := broadcastInDim S100x980 ![] bcast_S_S100x980 main_cst_1
  let main_v18 : IVec S100x980 1 := cmpf .olt main_v16 main_v17
  (main_v13, main_v18)
-- ==== Kernel.lean ====
abbrev S1x20000x85 : Shape := ⟨3, ![1, 20000, 85]⟩
abbrev S1x20000x980 : Shape := ⟨3, ![1, 20000, 980]⟩
abbrev S1x5x160x160 : Shape := ⟨4, ![1, 5, 160, 160]⟩
abbrev S100x5x56x56 : Shape := ⟨4, ![100, 5, 56, 56]⟩
abbrev S14x56 : Shape := ⟨2, ![14, 56]⟩
abbrev S1x100x85 : Shape := ⟨3, ![1, 100, 85]⟩
abbrev S100x85 : Shape := ⟨2, ![100, 85]⟩
abbrev S1x100x980 : Shape := ⟨3, ![1, 100, 980]⟩
abbrev S100x980 : Shape := ⟨2, ![100, 980]⟩
abbrev S100x5x196 : Shape := ⟨3, ![100, 5, 196]⟩
abbrev S5x100x196 : Shape := ⟨3, ![5, 100, 196]⟩
abbrev S5x100x56x56 : Shape := ⟨4, ![5, 100, 56, 56]⟩
abbrev S5x100x3136 : Shape := ⟨3, ![5, 100, 3136]⟩
abbrev S14x1x56x1 : Shape := ⟨4, ![14, 1, 56, 1]⟩
abbrev S1x14x1x56 : Shape := ⟨4, ![1, 14, 1, 56]⟩
abbrev S14x14x56x56 : Shape := ⟨4, ![14, 14, 56, 56]⟩
abbrev S196x3136 : Shape := ⟨2, ![196, 3136]⟩
abbrev S100x3143 : Shape := ⟨2, ![100, 3143]⟩
abbrev S16x85 : Shape := ⟨2, ![16, 85]⟩
abbrev S5x16x196 : Shape := ⟨3, ![5, 16, 196]⟩
abbrev S5x16x3136 : Shape := ⟨3, ![5, 16, 3136]⟩
abbrev S16x3143 : Shape := ⟨2, ![16, 3143]⟩
abbrev S16x1 : Shape := ⟨2, ![16, 1]⟩
abbrev S16x80 : Shape := ⟨2, ![16, 80]⟩
abbrev S16 : Shape := ⟨1, ![16]⟩
abbrev S16x4 : Shape := ⟨2, ![16, 4]⟩
abbrev S16x3136 : Shape := ⟨2, ![16, 3136]⟩
abbrev S16x7 : Shape := ⟨2, ![16, 7]⟩

abbrev nBuf : Space → Nat
  | .hbm => 23
  | .vmem => 9
  | .smem => 0
  | _ => 0

abbrev bufTy : (tb : Table) → Fin (tcTables nBuf tb) → BufTy
  | .hbm, ⟨0, _⟩ => ⟨S1x20000x85, .f32⟩
  | .hbm, ⟨1, _⟩ => ⟨S1x20000x980, .f32⟩
  | .hbm, ⟨2, _⟩ => ⟨S1x5x160x160, .f32⟩
  | .hbm, ⟨3, _⟩ => ⟨S100x5x56x56, .f32⟩
  | .hbm, ⟨4, _⟩ => ⟨S14x56, .f32⟩
  | .hbm, ⟨5, _⟩ => ⟨S1x100x85, .f32⟩
  | .hbm, ⟨6, _⟩ => ⟨S100x85, .f32⟩
  | .hbm, ⟨7, _⟩ => ⟨S1x100x980, .f32⟩
  | .hbm, ⟨8, _⟩ => ⟨S100x980, .f32⟩
  | .hbm, ⟨9, _⟩ => ⟨S100x5x196, .f32⟩
  | .hbm, ⟨10, _⟩ => ⟨S5x100x196, .f32⟩
  | .hbm, ⟨11, _⟩ => ⟨S5x100x196, .bf16⟩
  | .hbm, ⟨12, _⟩ => ⟨S5x100x56x56, .f32⟩
  | .hbm, ⟨13, _⟩ => ⟨S5x100x3136, .f32⟩
  | .hbm, ⟨14, _⟩ => ⟨S5x100x3136, .bf16⟩
  | .hbm, ⟨15, _⟩ => ⟨S14x1x56x1, .f32⟩
  | .hbm, ⟨16, _⟩ => ⟨S1x14x1x56, .f32⟩
  | .hbm, ⟨17, _⟩ => ⟨S14x14x56x56, .f32⟩
  | .hbm, ⟨18, _⟩ => ⟨S14x14x56x56, .f32⟩
  | .hbm, ⟨19, _⟩ => ⟨S14x14x56x56, .f32⟩
  | .hbm, ⟨20, _⟩ => ⟨S196x3136, .f32⟩
  | .hbm, ⟨21, _⟩ => ⟨S196x3136, .bf16⟩
  | .hbm, ⟨22, _⟩ => ⟨S100x3143, .f32⟩
  | .local _ .vmem, ⟨0, _⟩ => ⟨S16x85, .f32⟩
  | .local _ .vmem, ⟨1, _⟩ => ⟨S16x85, .f32⟩
  | .local _ .vmem, ⟨2, _⟩ => ⟨S5x16x196, .bf16⟩
  | .local _ .vmem, ⟨3, _⟩ => ⟨S5x16x196, .bf16⟩
  | .local _ .vmem, ⟨4, _⟩ => ⟨S196x3136, .bf16⟩
  | .local _ .vmem, ⟨5, _⟩ => ⟨S5x16x3136, .bf16⟩
  | .local _ .vmem, ⟨6, _⟩ => ⟨S5x16x3136, .bf16⟩
  | .local _ .vmem, ⟨7, _⟩ => ⟨S16x3143, .f32⟩
  | .local _ .vmem, ⟨8, _⟩ => ⟨S16x3143, .f32⟩
  | _, _ => ⟨S1x20000x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x16x196 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S196x3136 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x16x3136 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3143 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x20000x85 : Shape := ⟨3, ![1, 20000, 85]⟩
abbrev S1x20000x980 : Shape := ⟨3, ![1, 20000, 980]⟩
abbrev S1x5x160x160 : Shape := ⟨4, ![1, 5, 160, 160]⟩
abbrev S100x5x56x56 : Shape := ⟨4, ![100, 5, 56, 56]⟩
abbrev S4x4 : Shape := ⟨2, ![4, 4]⟩
abbrev S1x20000x4 : Shape := ⟨3, ![1, 20000, 4]⟩
abbrev S1x20000x1 : Shape := ⟨3, ![1, 20000, 1]⟩
abbrev S1x20000x80 : Shape := ⟨3, ![1, 20000, 80]⟩
abbrev S_ : Shape := ⟨0, ![]⟩
abbrev S1x20000 : Shape := ⟨2, ![1, 20000]⟩
abbrev S100 : Shape := ⟨1, ![100]⟩
abbrev S100x1 : Shape := ⟨2, ![100, 1]⟩
abbrev S100x2 : Shape := ⟨2, ![100, 2]⟩
abbrev S100x4 : Shape := ⟨2, ![100, 4]⟩
abbrev S100x980 : Shape := ⟨2, ![100, 980]⟩
abbrev S100x5x14x14 : Shape := ⟨4, ![100, 5, 14, 14]⟩
abbrev S56 : Shape := ⟨1, ![56]⟩
abbrev S14 : Shape := ⟨1, ![14]⟩
abbrev S1x56 : Shape := ⟨2, ![1, 56]⟩
abbrev S14x1 : Shape := ⟨2, ![14, 1]⟩
abbrev S14x56 : Shape := ⟨2, ![14, 56]⟩
abbrev S56x100x5x14 : Shape := ⟨4, ![56, 100, 5, 14]⟩
abbrev S56x100x5x56 : Shape := ⟨4, ![56, 100, 5, 56]⟩
abbrev S100x56x56 : Shape := ⟨3, ![100, 56, 56]⟩
abbrev S100x1x56x56 : Shape := ⟨4, ![100, 1, 56, 56]⟩
abbrev S100x3136 : Shape := ⟨2, ![100, 3136]⟩
abbrev S100x3143 : Shape := ⟨2, ![100, 3143]⟩

abbrev nBuf : Space → Nat
  | .hbm => 266
  | .vmem => 0
  | .smem => 0
  | _ => 0

abbrev hbmTy0_0 (i : Nat) : BufTy := match i % 128 with
  | 0 => ⟨S1x20000x85, .f32⟩
  | 1 => ⟨S1x20000x980, .f32⟩
  | 2 => ⟨S1x5x160x160, .f32⟩
  | 3 => ⟨S100x5x56x56, .f32⟩
  | 4 => ⟨S4x4, .f32⟩
  | 5 => ⟨S1x20000x4, .f32⟩
  | 6 => ⟨S1x20000x1, .f32⟩
  | 7 => ⟨S1x20000x80, .f32⟩
  | 8 => ⟨S1x20000x80, .f32⟩
  | 9 => ⟨S1x20000x80, .f32⟩
  | 10 => ⟨S1x20000x4, .f32⟩
  | 11 => ⟨S_, .f32⟩
  | 12 => ⟨S1x20000, .f32⟩
  | 13 => ⟨S1x20000x1, .f32⟩
  | 14 => ⟨S1x20000x80, .i32⟩
  | 15 => ⟨S_, .f32⟩
  | 16 => ⟨S_, .i32⟩
  | 17 => ⟨S1x20000, .f32⟩
  | 18 => ⟨S1x20000, .i32⟩
  | 19 => ⟨S1x20000x1, .i32⟩
  | 20 => ⟨S_, .i32⟩
  | 21 => ⟨S100, .i32⟩
  | 22 => ⟨S100, .i32⟩
  | 23 => ⟨S_, .i32⟩
  | 24 => ⟨S100, .i32⟩
  | 25 => ⟨S100, .i32⟩
  | 26 => ⟨S_, .i32⟩
  | 27 => ⟨S100, .i32⟩
  | 28 => ⟨S100, .i1⟩
  | 29 => ⟨S_, .i32⟩
  | 30 => ⟨S100, .i32⟩
  | 31 => ⟨S100, .i32⟩
  | 32 => ⟨S100, .i32⟩
  | 33 => ⟨S_, .i32⟩
  | 34 => ⟨S100, .i32⟩
  | 35 => ⟨S100, .i1⟩
  | 36 => ⟨S_, .i32⟩
  | 37 => ⟨S100, .i32⟩
  | 38 => ⟨S100, .i32⟩
  | 39 => ⟨S100, .i32⟩
  | 40 => ⟨S100x1, .i32⟩
  | 41 => ⟨S100x1, .i32⟩
  | 42 => ⟨S100x2, .i32⟩
  | 43 => ⟨S100x4, .f32⟩
  | 44 => ⟨S_, .i32⟩
  | 45 => ⟨S100, .i32⟩
  | 46 => ⟨S100, .i1⟩
  | 47 => ⟨S_, .i32⟩
  | 48 => ⟨S100, .i32⟩
  | 49 => ⟨S100, .i32⟩
  | 50 => ⟨S100, .i32⟩
  | 51 => ⟨S_, .i32⟩
  | 52 => ⟨S100, .i32⟩
  | 53 => ⟨S100, .i1⟩
  | 54 => ⟨S_, .i32⟩
  | 55 => ⟨S100, .i32⟩
  | 56 => ⟨S100, .i32⟩
  | 57 => ⟨S100, .i32⟩
  | 58 => ⟨S100x1, .i32⟩
  | 59 => ⟨S100x1, .i32⟩
  | 60 => ⟨S100x2, .i32⟩
  | 61 => ⟨S100x1, .i32⟩
  | 62 => ⟨S100x1, .f32⟩
  | 63 => ⟨S_, .i32⟩
  | 64 => ⟨S100, .i32⟩
  | 65 => ⟨S100, .i1⟩
  | 66 => ⟨S_, .i32⟩
  | 67 => ⟨S100, .i32⟩
  | 68 => ⟨S100, .i32⟩
  | 69 => ⟨S100, .i32⟩
  | 70 => ⟨S_, .i32⟩
  | 71 => ⟨S100, .i32⟩
  | 72 => ⟨S100, .i1⟩
  | 73 => ⟨S_, .i32⟩
  | 74 => ⟨S100, .i32⟩
  | 75 => ⟨S100, .i32⟩
  | 76 => ⟨S100, .i32⟩
  | 77 => ⟨S100x1, .i32⟩
  | 78 => ⟨S100x1, .i32⟩
  | 79 => ⟨S100x2, .i32⟩
  | 80 => ⟨S100x1, .f32⟩
  | 81 => ⟨S_, .i32⟩
  | 82 => ⟨S100, .i32⟩
  | 83 => ⟨S100, .i1⟩
  | 84 => ⟨S_, .i32⟩
  | 85 => ⟨S100, .i32⟩
  | 86 => ⟨S100, .i32⟩
  | 87 => ⟨S100, .i32⟩
  | 88 => ⟨S_, .i32⟩
  | 89 => ⟨S100, .i32⟩
  | 90 => ⟨S100, .i1⟩
  | 91 => ⟨S_, .i32⟩
  | 92 => ⟨S100, .i32⟩
  | 93 => ⟨S100, .i32⟩
  | 94 => ⟨S100, .i32⟩
  | 95 => ⟨S100x1, .i32⟩
  | 96 => ⟨S100x1, .i32⟩
  | 97 => ⟨S100x2, .i32⟩
  | 98 => ⟨S100x980, .f32⟩
  | 99 => ⟨S100x5x14x14, .f32⟩
  | 100 => ⟨S_, .f32⟩
  | 101 => ⟨S_, .f32⟩
  | 102 => ⟨S_, .f32⟩
  | 103 => ⟨S56, .f32⟩
  | 104 => ⟨S_, .f32⟩
  | 105 => ⟨S56, .f32⟩
  | 106 => ⟨S56, .f32⟩
  | 107 => ⟨S_, .f32⟩
  | 108 => ⟨S56, .f32⟩
  | 109 => ⟨S56, .f32⟩
  | 110 => ⟨S_, .f32⟩
  | 111 => ⟨S56, .f32⟩
  | 112 => ⟨S56, .f32⟩
  | 113 => ⟨S_, .f32⟩
  | 114 => ⟨S56, .f32⟩
  | 115 => ⟨S56, .f32⟩
  | 116 => ⟨S14, .f32⟩
  | 117 => ⟨S1x56, .f32⟩
  | 118 => ⟨S14x1, .f32⟩
  | 119 => ⟨S14x56, .f32⟩
  | 120 => ⟨S14x56, .f32⟩
  | 121 => ⟨S14x56, .f32⟩
  | 122 => ⟨S14x56, .f32⟩
  | 123 => ⟨S_, .f32⟩
  | 124 => ⟨S14x56, .f32⟩
  | 125 => ⟨S14x56, .f32⟩
  | 126 => ⟨S14x56, .f32⟩
  | 127 => ⟨S_, .f32⟩
  | _ => ⟨S1x20000x85, .f32⟩

abbrev hbmTy0_1 (i : Nat) : BufTy := match i % 128 with
  | 0 => ⟨S14x56, .f32⟩
  | 1 => ⟨S14x56, .f32⟩
  | 2 => ⟨S_, .f32⟩
  | 3 => ⟨S14x56, .f32⟩
  | 4 => ⟨S14x56, .f32⟩
  | 5 => ⟨S_, .f32⟩
  | 6 => ⟨S56, .f32⟩
  | 7 => ⟨S1x56, .f32⟩
  | 8 => ⟨S1x56, .f32⟩
  | 9 => ⟨S_, .f32⟩
  | 10 => ⟨S1x56, .f32⟩
  | 11 => ⟨S1x56, .i1⟩
  | 12 => ⟨S_, .f32⟩
  | 13 => ⟨S1x56, .f32⟩
  | 14 => ⟨S1x56, .i1⟩
  | 15 => ⟨S_, .i32⟩
  | 16 => ⟨S_, .f32⟩
  | 17 => ⟨S1x56, .f32⟩
  | 18 => ⟨S1x56, .f32⟩
  | 19 => ⟨S14x56, .f32⟩
  | 20 => ⟨S14x56, .f32⟩
  | 21 => ⟨S_, .i32⟩
  | 22 => ⟨S_, .f32⟩
  | 23 => ⟨S14x56, .i1⟩
  | 24 => ⟨S14x56, .f32⟩
  | 25 => ⟨S14x56, .f32⟩
  | 26 => ⟨S_, .f32⟩
  | 27 => ⟨S56, .f32⟩
  | 28 => ⟨S56, .i1⟩
  | 29 => ⟨S_, .f32⟩
  | 30 => ⟨S56, .f32⟩
  | 31 => ⟨S56, .i1⟩
  | 32 => ⟨S56, .i1⟩
  | 33 => ⟨S1x56, .i1⟩
  | 34 => ⟨S_, .i32⟩
  | 35 => ⟨S_, .f32⟩
  | 36 => ⟨S14x56, .i1⟩
  | 37 => ⟨S14x56, .f32⟩
  | 38 => ⟨S14x56, .f32⟩
  | 39 => ⟨S_, .f32⟩
  | 40 => ⟨S_, .f32⟩
  | 41 => ⟨S_, .f32⟩
  | 42 => ⟨S56, .f32⟩
  | 43 => ⟨S_, .f32⟩
  | 44 => ⟨S56, .f32⟩
  | 45 => ⟨S56, .f32⟩
  | 46 => ⟨S_, .f32⟩
  | 47 => ⟨S56, .f32⟩
  | 48 => ⟨S56, .f32⟩
  | 49 => ⟨S_, .f32⟩
  | 50 => ⟨S56, .f32⟩
  | 51 => ⟨S56, .f32⟩
  | 52 => ⟨S_, .f32⟩
  | 53 => ⟨S56, .f32⟩
  | 54 => ⟨S56, .f32⟩
  | 55 => ⟨S14, .f32⟩
  | 56 => ⟨S1x56, .f32⟩
  | 57 => ⟨S14x1, .f32⟩
  | 58 => ⟨S14x56, .f32⟩
  | 59 => ⟨S14x56, .f32⟩
  | 60 => ⟨S14x56, .f32⟩
  | 61 => ⟨S14x56, .f32⟩
  | 62 => ⟨S_, .f32⟩
  | 63 => ⟨S14x56, .f32⟩
  | 64 => ⟨S14x56, .f32⟩
  | 65 => ⟨S14x56, .f32⟩
  | 66 => ⟨S_, .f32⟩
  | 67 => ⟨S14x56, .f32⟩
  | 68 => ⟨S14x56, .f32⟩
  | 69 => ⟨S_, .f32⟩
  | 70 => ⟨S14x56, .f32⟩
  | 71 => ⟨S14x56, .f32⟩
  | 72 => ⟨S_, .f32⟩
  | 73 => ⟨S56, .f32⟩
  | 74 => ⟨S1x56, .f32⟩
  | 75 => ⟨S1x56, .f32⟩
  | 76 => ⟨S_, .f32⟩
  | 77 => ⟨S1x56, .f32⟩
  | 78 => ⟨S1x56, .i1⟩
  | 79 => ⟨S_, .f32⟩
  | 80 => ⟨S1x56, .f32⟩
  | 81 => ⟨S1x56, .i1⟩
  | 82 => ⟨S_, .i32⟩
  | 83 => ⟨S_, .f32⟩
  | 84 => ⟨S1x56, .f32⟩
  | 85 => ⟨S1x56, .f32⟩
  | 86 => ⟨S14x56, .f32⟩
  | 87 => ⟨S14x56, .f32⟩
  | 88 => ⟨S_, .i32⟩
  | 89 => ⟨S_, .f32⟩
  | 90 => ⟨S14x56, .i1⟩
  | 91 => ⟨S14x56, .f32⟩
  | 92 => ⟨S14x56, .f32⟩
  | 93 => ⟨S_, .f32⟩
  | 94 => ⟨S56, .f32⟩
  | 95 => ⟨S56, .i1⟩
  | 96 => ⟨S_, .f32⟩
  | 97 => ⟨S56, .f32⟩
  | 98 => ⟨S56, .i1⟩
  | 99 => ⟨S56, .i1⟩
  | 100 => ⟨S1x56, .i1⟩
  | 101 => ⟨S_, .i32⟩
  | 102 => ⟨S_, .f32⟩
  | 103 => ⟨S14x56, .i1⟩
  | 104 => ⟨S14x56, .f32⟩
  | 105 => ⟨S14x56, .f32⟩
  | 106 => ⟨S56x100x5x14, .f32⟩
  | 107 => ⟨S56x100x5x56, .f32⟩
  | 108 => ⟨S100x5x56x56, .f32⟩
  | 109 => ⟨S_, .f32⟩
  | 110 => ⟨S100x56x56, .f32⟩
  | 111 => ⟨S_, .f32⟩
  | 112 => ⟨S100x56x56, .f32⟩
  | 113 => ⟨S100x56x56, .f32⟩
  | 114 => ⟨S100x1x56x56, .f32⟩
  | 115 => ⟨S100x5x56x56, .f32⟩
  | 116 => ⟨S100x5x56x56, .f32⟩
  | 117 => ⟨S100x5x56x56, .f32⟩
  | 118 => ⟨S_, .f32⟩
  | 119 => ⟨S100x56x56, .f32⟩
  | 120 => ⟨S100x1x56x56, .f32⟩
  | 121 => ⟨S100x5x56x56, .f32⟩
  | 122 => ⟨S100x5x56x56, .f32⟩
  | 123 => ⟨S100x5x56x56, .f32⟩
  | 124 => ⟨S_, .f32⟩
  | 125 => ⟨S100x56x56, .f32⟩
  | 126 => ⟨S100x3136, .f32⟩
  | 127 => ⟨S100x3136, .f32⟩
  | _ => ⟨S1x20000x85, .f32⟩

abbrev hbmTy0_2 (i : Nat) : BufTy := match i % 128 with
  | 0 => ⟨S100x3136, .f32⟩
  | 1 => ⟨S_, .f32⟩
  | 2 => ⟨S100x3136, .f32⟩
  | 3 => ⟨S100x3136, .f32⟩
  | 4 => ⟨S_, .f32⟩
  | 5 => ⟨S100x3136, .f32⟩
  | 6 => ⟨S100x3136, .f32⟩
  | 7 => ⟨S100, .f32⟩
  | 8 => ⟨S100x1, .f32⟩
  | 9 => ⟨S100x3143, .f32⟩
  | _ => ⟨S1x20000x85, .f32⟩

abbrev hbmTy (i : Nat) : BufTy := match i / 128 with
  | 0 => hbmTy0_0 i
  | 1 => hbmTy0_1 i
  | 2 => hbmTy0_2 i
  | _ => ⟨S1x20000x85, .f32⟩

abbrev bufTy : (tb : Table) → Fin (tcTables nBuf tb) → BufTy
  | .hbm, ⟨i, _⟩ => hbmTy i
  | _, _ => ⟨S1x20000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_c_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_v57 : Ref sig .tc := ⟨.hbm, 82, rfl⟩
abbrev main_v58 : Ref sig .tc := ⟨.hbm, 83, rfl⟩
abbrev main_c_15 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_16 : Ref sig .tc := ⟨.hbm, 88, rfl⟩
abbrev main_v62 : Ref sig .tc := ⟨.hbm, 89, rfl⟩
abbrev main_v63 : Ref sig .tc := ⟨.hbm, 90, rfl⟩
abbrev main_c_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call1_cst : Ref sig .tc := ⟨.hbm, 100, rfl⟩
abbrev main_call1_cst_0 : Ref sig .tc := ⟨.hbm, 101, rfl⟩
abbrev main_call1_v0 : Ref sig .tc := ⟨.hbm, 102, rfl⟩
abbrev main_call1_v1 : Ref sig .tc := ⟨.hbm, 103, rfl⟩
abbrev main_call1_cst_1 : Ref sig .tc := ⟨.hbm, 104, rfl⟩
abbrev main_call1_v2 : Ref sig .tc := ⟨.hbm, 105, rfl⟩
abbrev main_call1_v3 : Ref sig .tc := ⟨.hbm, 106, rfl⟩
abbrev main_call1_cst_2 : Ref sig .tc := ⟨.hbm, 107, rfl⟩
abbrev main_call1_v4 : Ref sig .tc := ⟨.hbm, 108, rfl⟩
abbrev main_call1_v5 : Ref sig .tc := ⟨.hbm, 109, rfl⟩
abbrev main_call1_cst_3 : Ref sig .tc := ⟨.hbm, 110, rfl⟩
abbrev main_call1_v6 : Ref sig .tc := ⟨.hbm, 111, rfl⟩
abbrev main_call1_v7 : Ref sig .tc := ⟨.hbm, 112, rfl⟩
abbrev main_call1_cst_4 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_call1_v15 : Ref sig .tc := ⟨.hbm, 121, rfl⟩
abbrev main_call1_v16 : Ref sig .tc := ⟨.hbm, 122, rfl⟩
abbrev main_call1_v17 : Ref sig .tc := ⟨.hbm, 123, rfl⟩
abbrev main_call1_v18 : Ref sig .tc := ⟨.hbm, 124, rfl⟩
abbrev main_call1_v19 : Ref sig .tc := ⟨.hbm, 125, rfl⟩
abbrev main_call1_v20 : Ref sig .tc := ⟨.hbm, 126, rfl⟩
abbrev main_call1_cst_5 : Ref sig .tc := ⟨.hbm, 127, rfl⟩
abbrev main_call1_v21 : Ref sig .tc := ⟨.hbm, 128, rfl⟩
abbrev main_call1_v22 : Ref sig .tc := ⟨.hbm, 129, rfl⟩
abbrev main_call1_cst_6 : Ref sig .tc := ⟨.hbm, 130, rfl⟩
abbrev main_call1_v23 : Ref sig .tc := ⟨.hbm, 131, rfl⟩
abbrev main_call1_v24 : Ref sig .tc := ⟨.hbm, 132, rfl⟩
abbrev main_call1_cst_7 : Ref sig .tc := ⟨.hbm, 133, rfl⟩
abbrev main_call1_v25 : Ref sig .tc := ⟨.hbm, 134, rfl⟩
abbrev main_call1_v26 : Ref sig .tc := ⟨.hbm, 135, rfl⟩
abbrev main_call1_v27 : Ref sig .tc := ⟨.hbm, 136, rfl⟩
abbrev main_call1_cst_8 : Ref sig .tc := ⟨.hbm, 137, rfl⟩
abbrev main_call1_v28 : Ref sig .tc := ⟨.hbm, 138, rfl⟩
abbrev main_call1_v29 : Ref sig .tc := ⟨.hbm, 139, rfl⟩
abbrev main_call1_cst_9 : Ref sig .tc := ⟨.hbm, 140, rfl⟩
abbrev main_call1_v30 : Ref sig .tc := ⟨.hbm, 141, rfl⟩
abbrev main_call1_v31 : Ref sig .tc := ⟨.hbm, 142, rfl⟩
abbrev main_call1_c : Ref sig .tc := ⟨.hbm, 143, rfl⟩
abbrev main_call1_call0_v0 : Ref sig .tc := ⟨.hbm, 144, rfl⟩
abbrev main_call1_call0_v1 : Ref sig .tc := ⟨.hbm, 145, rfl⟩
abbrev main_call1_v32 : Ref sig .tc := ⟨.hbm, 146, rfl⟩
abbrev main_call1_v33 : Ref sig .tc := ⟨.hbm, 147, rfl⟩
abbrev main_call1_v34 : Ref sig .tc := ⟨.hbm, 148, rfl⟩
abbrev main_call1_c_10 : Ref sig .tc := ⟨.hbm, 149, rfl⟩
abbrev main_call1_call1_v0 : Ref sig .tc := ⟨.hbm, 150, rfl⟩
abbrev main_call1_call1_v1 : Ref sig .tc := ⟨.hbm, 151, rfl⟩
abbrev main_call1_call1_v2 : Ref sig .tc := ⟨.hbm, 152, rfl⟩
abbrev main_call1_v35 : Ref sig .tc := ⟨.hbm, 153, rfl⟩
abbrev main_call1_cst_11 : Ref sig .tc := ⟨.hbm, 154, rfl⟩
abbrev main_call1_v36 : Ref sig .tc := ⟨.hbm, 155, rfl⟩
abbrev main_call1_v37 : Ref sig .tc := ⟨.hbm, 156, rfl⟩
abbrev main_call1_cst_12 : Ref sig .tc := ⟨.hbm, 157, rfl⟩
abbrev main_call1_v38 : Ref sig .tc := ⟨.hbm, 158, rfl⟩
abbrev main_call1_v39 : Ref sig .tc := ⟨.hbm, 159, rfl⟩
abbrev main_call1_v40 : Ref sig .tc := ⟨.hbm, 160, rfl⟩
abbrev main_call1_v41 : Ref sig .tc := ⟨.hbm, 161, rfl⟩
abbrev main_call1_c_13 : Ref sig .tc := ⟨.hbm, 162, rfl⟩
abbrev main_call1_call2_v0 : Ref sig .tc := ⟨.hbm, 163, rfl⟩
abbrev main_call1_call2_v1 : Ref sig .tc := ⟨.hbm, 164, rfl⟩
abbrev main_call1_call2_v2 : Ref sig .tc := ⟨.hbm, 165, rfl⟩
abbrev main_call1_v42 : Ref sig .tc := ⟨.hbm, 166, rfl⟩
abbrev main_call1_cst_14 : Ref sig .tc := ⟨.hbm, 167, rfl⟩
abbrev main_call1_cst_15 : Ref sig .tc := ⟨.hbm, 168, rfl⟩
abbrev main_call1_v43 : Ref sig .tc := ⟨.hbm, 169, rfl⟩
abbrev main_call1_v44 : Ref sig .tc := ⟨.hbm, 170, rfl⟩
abbrev main_call1_cst_16 : Ref sig .tc := ⟨.hbm, 171, rfl⟩
abbrev main_call1_v45 : Ref sig .tc := ⟨.hbm, 172, rfl⟩
abbrev main_call1_v46 : Ref sig .tc := ⟨.hbm, 173, rfl⟩
abbrev main_call1_cst_17 : Ref sig .tc := ⟨.hbm, 174, rfl⟩
abbrev main_call1_v47 : Ref sig .tc := ⟨.hbm, 175, rfl⟩
abbrev main_call1_v48 : Ref sig .tc := ⟨.hbm, 176, rfl⟩
abbrev main_call1_cst_18 : Ref sig .tc := ⟨.hbm, 177, rfl⟩
abbrev main_call1_v49 : Ref sig .tc := ⟨.hbm, 178, rfl⟩
abbrev main_call1_v50 : Ref sig .tc := ⟨.hbm, 179, rfl⟩
abbrev main_call1_cst_19 : Ref sig .tc := ⟨.hbm, 180, rfl⟩
abbrev main_call1_v51 : Ref sig .tc := ⟨.hbm, 181, rfl⟩
abbrev main_call1_v52 : Ref sig .tc := ⟨.hbm, 182, rfl⟩
abbrev main_call1_v53 : Ref sig .tc := ⟨.hbm, 183, rfl⟩
abbrev main_call1_v54 : Ref sig .tc := ⟨.hbm, 184, rfl⟩
abbrev main_call1_v55 : Ref sig .tc := ⟨.hbm, 185, rfl⟩
abbrev main_call1_v56 : Ref sig .tc := ⟨.hbm, 186, rfl⟩
abbrev main_call1_v57 : Ref sig .tc := ⟨.hbm, 187, rfl⟩
abbrev main_call1_v58 : Ref sig .tc := ⟨.hbm, 188, rfl⟩
abbrev main_call1_v59 : Ref sig .tc := ⟨.hbm, 189, rfl⟩
abbrev main_call1_v60 : Ref sig .tc := ⟨.hbm, 190, rfl⟩
abbrev main_call1_v61 : Ref sig .tc := ⟨.hbm, 191, rfl⟩
abbrev main_call1_v62 : Ref sig .tc := ⟨.hbm, 192, rfl⟩
abbrev main_call1_v63 : Ref sig .tc := ⟨.hbm, 193, rfl⟩
abbrev main_call1_cst_20 : Ref sig .tc := ⟨.hbm, 194, rfl⟩
abbrev main_call1_v64 : Ref sig .tc := ⟨.hbm, 195, rfl⟩
abbrev main_call1_v65 : Ref sig .tc := ⟨.hbm, 196, rfl⟩
abbrev main_call1_cst_21 : Ref sig .tc := ⟨.hbm, 197, rfl⟩
abbrev main_call1_v66 : Ref sig .tc := ⟨.hbm, 198, rfl⟩
abbrev main_call1_v67 : Ref sig .tc := ⟨.hbm, 199, rfl⟩
abbrev main_call1_cst_22 : Ref sig .tc := ⟨.hbm, 200, rfl⟩
abbrev main_call1_v68 : Ref sig .tc := ⟨.hbm, 201, rfl⟩
abbrev main_call1_v69 : Ref sig .tc := ⟨.hbm, 202, rfl⟩
abbrev main_call1_v70 : Ref sig .tc := ⟨.hbm, 203, rfl⟩
abbrev main_call1_cst_23 : Ref sig .tc := ⟨.hbm, 204, rfl⟩
abbrev main_call1_v71 : Ref sig .tc := ⟨.hbm, 205, rfl⟩
abbrev main_call1_v72 : Ref sig .tc := ⟨.hbm, 206, rfl⟩
abbrev main_call1_cst_24 : Ref sig .tc := ⟨.hbm, 207, rfl⟩
abbrev main_call1_v73 : Ref sig .tc := ⟨.hbm, 208, rfl⟩
abbrev main_call1_v74 : Ref sig .tc := ⟨.hbm, 209, rfl⟩
abbrev main_call1_c_25 : Ref sig .tc := ⟨.hbm, 210, rfl⟩
abbrev main_call1_call3_v0 : Ref sig .tc := ⟨.hbm, 211, rfl⟩
abbrev main_call1_call3_v1 : Ref sig .tc := ⟨.hbm, 212, rfl⟩
abbrev main_call1_v75 : Ref sig .tc := ⟨.hbm, 213, rfl⟩
abbrev main_call1_v76 : Ref sig .tc := ⟨.hbm, 214, rfl⟩
abbrev main_call1_v77 : Ref sig .tc := ⟨.hbm, 215, rfl⟩
abbrev main_call1_c_26 : Ref sig .tc := ⟨.hbm, 216, rfl⟩
abbrev main_call1_call4_v0 : Ref sig .tc := ⟨.hbm, 217, rfl⟩
abbrev main_call1_call4_v1 : Ref sig .tc := ⟨.hbm, 218, rfl⟩
abbrev main_call1_call4_v2 : Ref sig .tc := ⟨.hbm, 219, rfl⟩
abbrev main_call1_v78 : Ref sig .tc := ⟨.hbm, 220, rfl⟩
abbrev main_call1_cst_27 : Ref sig .tc := ⟨.hbm, 221, rfl⟩
abbrev main_call1_v79 : Ref sig .tc := ⟨.hbm, 222, rfl⟩
abbrev main_call1_v80 : Ref sig .tc := ⟨.hbm, 223, rfl⟩
abbrev main_call1_cst_28 : Ref sig .tc := ⟨.hbm, 224, rfl⟩
abbrev main_call1_v81 : Ref sig .tc := ⟨.hbm, 225, rfl⟩
abbrev main_call1_v82 : Ref sig .tc := ⟨.hbm, 226, rfl⟩
abbrev main_call1_v83 : Ref sig .tc := ⟨.hbm, 227, rfl⟩
abbrev main_call1_v84 : Ref sig .tc := ⟨.hbm, 228, rfl⟩
abbrev main_call1_c_29 : Ref sig .tc := ⟨.hbm, 229, rfl⟩
abbrev main_call1_call5_v0 : Ref sig .tc := ⟨.hbm, 230, rfl⟩
abbrev main_call1_call5_v1 : Ref sig .tc := ⟨.hbm, 231, rfl⟩
abbrev main_call1_call5_v2 : Ref sig .tc := ⟨.hbm, 232, rfl⟩
abbrev main_call1_v85 : Ref sig .tc := ⟨.hbm, 233, rfl⟩
abbrev main_call1_v86 : Ref sig .tc := ⟨.hbm, 234, rfl⟩
abbrev main_call1_v87 : Ref sig .tc := ⟨.hbm, 235, rfl⟩
abbrev main_v72 : Ref sig .tc := ⟨.hbm, 236, rfl⟩
abbrev main_cst_18 : Ref sig .tc := ⟨.hbm, 237, rfl⟩
abbrev main_v73 : Ref sig .tc := ⟨.hbm, 238, rfl⟩
abbrev main_cst_19 : Ref sig .tc := ⟨.hbm, 239, rfl⟩
abbrev main_v74 : Ref sig .tc := ⟨.hbm, 240, rfl⟩
abbrev main_v75 : Ref sig .tc := ⟨.hbm, 241, rfl⟩
abbrev main_v76 : Ref sig .tc := ⟨.hbm, 242, rfl⟩
abbrev main_v77 : Ref sig .tc := ⟨.hbm, 243, rfl⟩
abbrev main_v78 : Ref sig .tc := ⟨.hbm, 244, rfl⟩
abbrev main_v79 : Ref sig .tc := ⟨.hbm, 245, rfl⟩
abbrev main_cst_20 : Ref sig .tc := ⟨.hbm, 246, rfl⟩
abbrev main_v80 : Ref sig .tc := ⟨.hbm, 247, rfl⟩
abbrev main_v81 : Ref sig .tc := ⟨.hbm, 248, rfl⟩
abbrev main_v82 : Ref sig .tc := ⟨.hbm, 249, rfl⟩
abbrev main_v83 : Ref sig .tc := ⟨.hbm, 250, rfl⟩
abbrev main_v84 : Ref sig .tc := ⟨.hbm, 251, rfl⟩
abbrev main_cst_21 : Ref sig .tc := ⟨.hbm, 252, rfl⟩
abbrev main_v85 : Ref sig .tc := ⟨.hbm, 253, rfl⟩
abbrev main_v86 : Ref sig .tc := ⟨.hbm, 254, rfl⟩
abbrev main_v87 : Ref sig .tc := ⟨.hbm, 255, rfl⟩
abbrev main_v88 : Ref sig .tc := ⟨.hbm, 256, rfl⟩
abbrev main_cst_22 : Ref sig .tc := ⟨.hbm, 257, rfl⟩
abbrev main_v89 : Ref sig .tc := ⟨.hbm, 258, rfl⟩
abbrev main_v90 : Ref sig .tc := ⟨.hbm, 259, rfl⟩
abbrev main_cst_23 : Ref sig .tc := ⟨.hbm, 260, rfl⟩
abbrev main_v91 : Ref sig .tc := ⟨.hbm, 261, rfl⟩
abbrev main_v92 : Ref sig .tc := ⟨.hbm, 262, rfl⟩
abbrev main_v93 : Ref sig .tc := ⟨.hbm, 263, rfl⟩
abbrev main_v94 : Ref sig .tc := ⟨.hbm, 264, rfl⟩
abbrev main_v95 : Ref sig .tc := ⟨.hbm, 265, rfl⟩

abbrev nD : Nat := 1
abbrev τ : Topo := Topo.v7x

variable {F : FTy → Type} [FloatOps F]
-- ==== Proof.Kernel.Run.lean ====
/-
  The bit-exact program runs: `run_main`, and from it the frame `frame`.

  The 100 detections are taken in blocks of 16 rows on a grid of seven points, so the last block overhangs every
  array it is cut from: of its 16 rows only four lie inside. The rows past the end hold words nothing names, and the
  body computes on them like on any other. The frame reads nothing of the result, so the result's window is
  forgotten: its buffer is taken and handed back at arbitrary contents.
-/
module

public import proofs.«01_k».proof.Proof.Gen.Kernel.Frame
public import proofs.«01_k».proof.Proof.Gen.Kernel.Skeleton

@[expose] public section

set_option maxRecDepth 16384

noncomputable section

namespace Cert.Kernel.Masks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 1000000 in
/-- The body, on whole staging buffers: it reads the four inputs, which end as they were, and overwrites the
    result's buffer with something. -/
theorem body_runs (c : Dev nD) (E : Set ℕ) (i : grid0.Coords)
    (rows : Memref sig .tc .vmem S16x85 .f32) (hrows : rows.IsWhole)
    (attn : Memref sig .tc .vmem S5x16x196 .bf16) (hattn : attn.IsWhole)
    (wts : Memref sig .tc .vmem S196x3136 .bf16) (hwts : wts.IsWhole)
    (bases : Memref sig .tc .vmem S5x16x3136 .bf16) (hbases : bases.IsWhole)
    (out : Memref sig .tc .vmem S16x3143 .f32) (hout : out.IsWhole)
    (x0 : Vec F S16x85 .f32) (x1 : Vec F S5x16x196 .bf16) (x2 : Vec F S196x3136 .bf16)
    (x3 : Vec F S5x16x3136 .bf16) (x4 : Vec F S16x3143 .f32) (K : PUnit → sProp 𝕄) :
    iprop(owns (c : Thread nD τ) rows fullShare x0 ∗ owns (c : Thread nD τ) attn fullShare x1
        ∗ owns (c : Thread nD τ) wts fullShare x2 ∗ owns (c : Thread nD τ) bases fullShare x3
        ∗ owns (c : Thread nD τ) out fullShare x4
        ∗ (iprop(owns (c : Thread nD τ) rows fullShare x0 ∗ owns (c : Thread nD τ) attn fullShare x1
            ∗ owns (c : Thread nD τ) wts fullShare x2 ∗ owns (c : Thread nD τ) bases fullShare x3
            ∗ (∃ y, owns (c : Thread nD τ) out fullShare y)) -∗ K ⟨⟩))
      ⊢ wp frame (wpE (defs₀ (F := F)) Variants.none c none) E
          (cc0__fused_kernel i rows hrows attn hattn wts hwts bases hbases out hout) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro
  rfl

/-! ## The proof data, the result's window forgotten -/

/-- The forgotten windows: the result's. -/
def forgotten : Fin cfg0.W → Bool := fun w => w.val == 4

/-- Core `c`'s proof data: the arrays as the region finds them; each input's buffer left at its block, filled out
    past the array's end; of the result's nothing is said. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => FloatOps.ofBits .f32 0#32) (iblk m c 0 t)
    | ⟨1, _⟩ => win0_1.fill (grid0.coords t) (fun _ => FloatOps.ofBits .bf16 0#16) (iblk m c 1 t)
    | ⟨2, _⟩ => iblk m c 2 t
    | ⟨3, _⟩ => win0_3.fill (grid0.coords t) (fun _ => FloatOps.ofBits .bf16 0#16) (iblk m c 3 t)
    | ⟨4, _⟩ => fun _ => FloatOps.ofBits .f32 0#32
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- The weights' buffer is left at the weights, -/
theorem after_2 (c : Dev nD) (t : Fin cfg0.N) : (dats m 0 c).after 2 t = iblk m c 2 t := by dsimp only [dats]
/-- the rows', the attention's and the bases' at their blocks on the rows inside the arrays. -/
theorem cut_0 (c : Dev nD) (t : Fin cfg0.N) :
    (cfg0.win 0).cut (grid0.coords t) ((dats m 0 c).after 0 t) = iblk m c 0 t := by
  dsimp only [dats]; exact win0_0.cut_fill _ _ _
theorem cut_1 (c : Dev nD) (t : Fin cfg0.N) :
    (cfg0.win 1).cut (grid0.coords t) ((dats m 0 c).after 1 t) = iblk m c 1 t := by
  dsimp only [dats]; exact win0_1.cut_fill _ _ _
theorem cut_3 (c : Dev nD) (t : Fin cfg0.N) :
    (cfg0.win 3).cut (grid0.coords t) ((dats m 0 c).after 3 t) = iblk m c 3 t := by
  dsimp only [dats]; exact win0_3.cut_fill _ _ _

/-- What the body finds: the block just fetched, filled out with the words `d` the buffer holds past the end. -/
theorem before_0 (c : Dev nD) (t : Fin cfg0.N) (d) :
    (dats m 0 c).before 0 t d = (cfg0.win 0).fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = (cfg0.win 1).fill (grid0.coords t) d (iblk m c 1 t) := by
  unfold Dat.before; rw [if_pos (fetch0_1 t)]; unfold Dat.fetched Dat.blockOf iblk; rw [A_eq]
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) :
    (dats m 0 c).before 3 t d = (cfg0.win 3).fill (grid0.coords t) d (iblk m c 3 t) := by
  unfold Dat.before; rw [if_pos (fetch0_3 t)]; unfold Dat.fetched Dat.blockOf iblk; rw [A_eq]

/-! ## The body obligation -/

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- At every point the body takes each input's buffer at its block and hands it back so, the result's at anything. -/
theorem body_obligation (c : Dev nD) :
    BodyObligationLoose (dats (F := F) m 0 c) (defs₀ (F := F)) Variants.none () Set.univ forgotten := fun t => by
  rw [bigSep_W0, bigSep_W0, defs₀_row]
  change iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare d))
    ⊢ wp frame (wpE (defs₀ (F := F)) Variants.none c none) Set.univ (bodyAt0 t) fun _ =>
      iprop((dats m 0 c).Φ t.castSucc ∗ (dats m 0 c).owesAt () t.castSucc
      ∗ (∃ d, owns (c : Thread nD τ) (st0_0 t) fullShare ((cfg0.win 0).fill (grid0.coords t) d ((cfg0.win 0).cut (grid0.coords t) ((dats m 0 c).after 0 t))))
      ∗ (∃ d, owns (c : Thread nD τ) (st0_1 t) fullShare ((cfg0.win 1).fill (grid0.coords t) d ((cfg0.win 1).cut (grid0.coords t) ((dats m 0 c).after 1 t))))
      ∗ owns (c : Thread nD τ) (st0_2 t) fullShare ((dats m 0 c).after 2 t)
      ∗ (∃ d, owns (c : Thread nD τ) (st0_3 t) fullShare ((cfg0.win 3).fill (grid0.coords t) d ((cfg0.win 3).cut (grid0.coords t) ((dats m 0 c).after 3 t))))
      ∗ (∃ d, owns (c : Thread nD τ) (st0_4 t) fullShare d))
  rw [cut_0, cut_1, cut_3, after_2]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (body_runs c Set.univ (grid0.coords t) _ _ _ _ _ _ _ _ _ _ _ _ _ _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexists d3; iexact H3
  iexact H4

/-! ## The run -/

set_option backward.isDefEq.respectTransparency.types false in
set_option maxHeartbeats 800000 in
/-- At any values, from any memory with zero counters, every fair execution of @main ends; at its end every array
    and buffer but the result is as the region found it, and every counter is zero. -/
theorem run_main : θ_run defs (onTc (τ := τ) (main (F := F))) (s₀ m ρ) (fun r =>
    Pipeline.RDat.FramePost (cfgs 0) (fun c => (dats m 0 c).toRForget forgotten) (V m) r ∧ r.2.sem = fun _ => 0) :=
  Pipeline.θ_run_frame_forget (Q' := _) cfgs (dats m) (0 : Fin 1) launch0 defs₀ Variants.none forgotten m ρ main
    (hbody := body_obligation m) (hshare := fun c => (dats m 0 c).share_full fun _ => rfl)
    (howed := fun _ _ => rfl) (V := V m) (hmain := hmain m Variants.none) (hA := A_eq m) (hΦ := fun _ _ => rfl)

/-- The frame: the four arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c)⟩, h.2⟩)
    (run_main m ρ)

end Cert.Kernel.Masks

end
-- ==== Proof.Maths.Row.lean ====
/-
  One detection's row of the result, as a function of that detection's data alone: its 85 columns `r`, its five
  attention maps `a` of 14 × 14 logits laid in a line, the resizing weights `w`, and its five bases `p`, each 56 × 56
  laid in a line.
-/
module

public import Idealize.ShloMosaic.PureOps.Ideal
public import Idealize.ShloMosaic.Lib.Pointwise

@[expose] public section

noncomputable section

namespace Cert.Masks

open Idealize.ShloMosaic

/-- The score of class `c`: its column times the confidence. -/
def score (r : Fin 85 → EReal) (c : Fin 80) : EReal := r ⟨5 + c.val, by omega⟩ * r 4

/-- The greatest score. -/
def top (x : Fin 80 → EReal) : EReal := Finset.univ.fold max (Ideal.ofBits .f32 0xFF800000#32) x

open Classical in
/-- The first class with the greatest score. -/
def first (x : Fin 80 → EReal) : BitVec 32 :=
  BitVec.ofNat 32 (((Finset.univ.filter fun c : Fin 80 => ∀ d, x d ≤ x c).image Fin.val).min.getD 0)

/-- A corner of the box: the centre less or plus half the size. -/
def corner (r : Fin 85 → EReal) (k : Fin 4) : EReal :=
  if k.val = 0 then r 0 - Ideal.ofBits .f32 0x3F000000#32 * r 2
  else if k.val = 1 then r 1 - Ideal.ofBits .f32 0x3F000000#32 * r 3
  else if k.val = 2 then r 0 + Ideal.ofBits .f32 0x3F000000#32 * r 2
  else r 1 + Ideal.ofBits .f32 0x3F000000#32 * r 3

/-- The blend at place `k`: the bases weighted by the exponentials of the resized logits, over the sum of those. -/
def blended (a : Fin 5 → Fin 196 → EReal) (w : Fin 196 → Fin 3136 → EReal) (p : Fin 5 → Fin 3136 → EReal) (k : Fin 3136) :
    EReal :=
  Ideal.div (∑ b, p b k * Ideal.exp (∑ j, a b j * w j k)) (∑ b, Ideal.exp (∑ j, a b j * w j k))

/-- The row: batch index 0, the box, the class, the top score, and the mask through the sigmoid. -/
def row (r : Fin 85 → EReal) (a : Fin 5 → Fin 196 → EReal) (w : Fin 196 → Fin 3136 → EReal) (p : Fin 5 → Fin 3136 → EReal)
    (k : Fin 3143) : EReal :=
  if h : k.val < 7 then
    if _h1 : k.val < 1 then 0
    else if h4 : k.val - 1 < 4 then corner r ⟨k.val - 1, h4⟩
    else if _h5 : k.val - 1 - 4 < 1 then FloatOps.sitofp (F := Ideal) .f32 (first (score r))
    else top (score r)
  else Ideal.logistic (blended a w p ⟨k.val - 7, by omega⟩)

/-- Rows of equal data are equal. -/
theorem row_congr {r r' : Fin 85 → EReal} {a a' : Fin 5 → Fin 196 → EReal} {w w' : Fin 196 → Fin 3136 → EReal}
    {p p' : Fin 5 → Fin 3136 → EReal} {k k' : Fin 3143} (hr : ∀ c, r c = r' c) (ha : ∀ b j, a b j = a' b j)
    (hw : ∀ j k, w j k = w' j k) (hp : ∀ b k, p b k = p' b k) (hk : k = k') : row r a w p k = row r' a' w' p' k' := by
  rw [funext hr, funext fun b => funext (ha b), funext fun j => funext (hw j), funext fun b => funext (hp b), hk]

end Cert.Masks

end
-- ==== Proof.Ideal.Block.lean ====
/-
  What the body makes of one block: `out`, and each of its rows as the row function of that row's data
  (`out_row`). So what a block holds past the array's end never reaches the rows inside.
-/
module

public import proofs.«01_k».proof.Proof.Maths.Row
public import proofs.«01_k».proof.Proof.Gen.KernelIdeal.Skeleton
public import proofs.«01_k».proof.Proof.Gen.KernelIdeal.Points

@[expose] public section

set_option maxRecDepth 16384

noncomputable section

namespace Cert.KernelIdeal.Masks

open Cert.KernelIdeal Cert.KernelIdeal.Gen
open Idealize.ShloMosaic Idealize.ShloMosaic.TcCoe
open Cert.Masks

/-- The block the body stores, of the four it reads. -/
def out (x0 : Vec Ideal S16x85 .f32) (x1 : Vec Ideal S5x16x196 .bf16) (x2 : Vec Ideal S196x3136 .bf16)
    (x3 : Vec Ideal S5x16x3136 .bf16) : Vec Ideal S16x3143 .f32 :=
  k0_pay1 (k0_pay4 x0) (k0_pay5 x0) (k0_pay6 x0) (k0_pay7 x1 x2 x3)

/-- The top score of a row of the block. -/
theorem pay4_row (x0 : Vec Ideal S16x85 .f32) (i : Fin 16) :
    k0_pay4 x0 (ix2 i 0) = top (score fun c => x0 (ix2 i c)) := by
  pointwise [k0_pay4, k0_pay3, k0_pay2]
  rfl

/-- The scores of a row of the block. -/
theorem pay3_row (x0 : Vec Ideal S16x85 .f32) (i : Fin 16) (c : Fin 80) :
    k0_pay3 x0 (ix2 i c) = score (fun c => x0 (ix2 i c)) c := by
  pointwise [k0_pay3, k0_pay2]
  rfl

/-- Dropping the class leaves the row. -/
theorem drop_row (i : Fin 16) (c : Fin 80) : reduces_S16x80_S16.drop (ix2 i c) = ix1 i := by
  funext a
  fin_cases a
  rfl

/-- The first class with the greatest score, of a row of the block. -/
theorem argmax_row (x : FVec Ideal S16x80 .f32) (i : Fin 16) :
    reduceIndex .argMax 1 S16 x reduces_S16x80_S16 (ix1 i) = first fun c => x (ix2 i c) := by
  show Ideal.reduceIndex .argMax 1 reduces_S16x80_S16 x (ix1 i) = _
  unfold Ideal.reduceIndex first
  refine congrArg (fun s : Finset ℕ => BitVec.ofNat 32 (s.min.getD 0)) ?_
  ext n
  simp only [Finset.mem_image, Finset.mem_filter, Finset.mem_univ, true_and, if_true, not_lt]
  constructor
  · rintro ⟨y, ⟨hy, hmax⟩, rfl⟩
    have hi : y 0 = i := congrFun hy 0
    have e : y = ix2 i (y 1) := by
      funext a
      fin_cases a
      · exact hi
      · rfl
    refine ⟨y 1, fun d => ?_, rfl⟩
    have := hmax (ix2 i d) (drop_row i d)
    rw [e] at this
    exact this
  · rintro ⟨c, hmax, rfl⟩
    refine ⟨ix2 i c, ⟨drop_row i c, fun y hy => ?_⟩, rfl⟩
    have hi : y 0 = i := congrFun hy 0
    have e : y = ix2 i (y 1) := by
      funext a
      fin_cases a
      · exact hi
      · rfl
    rw [e]
    exact hmax (y 1)

/-- The class of a row of the block. -/
theorem pay5_row (x0 : Vec Ideal S16x85 .f32) (i : Fin 16) :
    k0_pay5 x0 (ix2 i 0) = FloatOps.sitofp (F := Ideal) .f32 (first (score fun c => x0 (ix2 i c))) := by
  have e : k0_pay5 x0 (ix2 i 0)
      = FloatOps.sitofp (F := Ideal) .f32 (reduceIndex .argMax 1 S16 (k0_pay3 x0) reduces_S16x80_S16 (ix1 i)) := by
    pointwise [k0_pay5]
  rw [e, argmax_row]
  exact congrArg (fun f => FloatOps.sitofp (F := Ideal) .f32 (first f)) (funext fun c => pay3_row x0 i c)

/-- The box of a row of the block. -/
theorem pay6_row (x0 : Vec Ideal S16x85 .f32) (i : Fin 16) (k : Fin 4) :
    k0_pay6 x0 (ix2 i k) = corner (fun c => x0 (ix2 i c)) k := by
  pointwise [k0_pay6, k0_pay2]
  fin_cases k <;> rfl

/-- The blend of a row of the block. -/
theorem pay7_row (x1 : Vec Ideal S5x16x196 .bf16) (x2 : Vec Ideal S196x3136 .bf16) (x3 : Vec Ideal S5x16x3136 .bf16)
    (i : Fin 16) (k : Fin 3136) :
    k0_pay7 x1 x2 x3 (ix2 i k)
      = blended (fun b j => x1 (ix3 b i j)) (fun j k => x2 (ix2 j k)) (fun b k => x3 (ix3 b i k)) k := by
  pointwise [k0_pay7]
  rfl

/-- A row of the stored block is the row of its own data. -/
theorem out_row (x0 : Vec Ideal S16x85 .f32) (x1 : Vec Ideal S5x16x196 .bf16) (x2 : Vec Ideal S196x3136 .bf16)
    (x3 : Vec Ideal S5x16x3136 .bf16) (i : Fin 16) (k : Fin 3143) :
    out x0 x1 x2 x3 (ix2 i k)
      = row (fun c => x0 (ix2 i c)) (fun b j => x1 (ix3 b i j)) (fun j k => x2 (ix2 j k)) (fun b k => x3 (ix3 b i k)) k := by
  unfold out row
  pointwise [k0_pay1]
  exact dite_congr rfl
    (fun h7 => dite_congr rfl (fun _ => rfl) fun h1 => dite_congr rfl (fun h4 => pay6_row x0 i _) fun h4 => dite_congr rfl
      (fun h5 => (congrArg (fun k : Fin 1 => k0_pay5 x0 (ix2 i k)) (Subsingleton.elim _ _)).trans (pay5_row x0 i))
      fun h5 => (congrArg (fun k : Fin 1 => k0_pay4 x0 (ix2 i k)) (Subsingleton.elim _ _)).trans (pay4_row x0 i))
    fun h7 => congrArg Ideal.logistic (pay7_row x1 x2 x3 i _)

end Cert.KernelIdeal.Masks

end
-- ==== Proof.Ideal.Rows.lean ====
/-
  The rows a block holds inside the array: at every one of them a staging buffer just fetched, whatever it holds past
  the array's end, reads the array the block was cut from; so the body's block there is the row function of the
  arrays' rows (`out_inside`).
-/
module

public import proofs.«01_k».proof.Proof.Ideal.Block
public import proofs.«01_k».proof.Proof.Gen.KernelIdeal.Frame
public import Idealize.ShloMosaic.Lib.Pipeline.ValueKit

@[expose] public section

set_option maxRecDepth 16384

noncomputable section

namespace Cert.KernelIdeal.Masks

open Cert.KernelIdeal Cert.KernelIdeal.Gen
open Idealize.ShloMosaic Idealize.ShloMosaic.TcCoe
open Idealize.ShloMosaic.Pipeline (Dat Cfg Window)
open Cert.Masks

variable (m : (ℓ : Loc nD τ sig) → Buf (Elt Ideal) ℓ)

/-- The result array: each row the row function of the arrays the region finds. -/
def whole (c : Dev nD) : Vec Ideal S100x3143 .f32 := fun y =>
  row (fun a => (V m c main_v1 : Vec Ideal S100x85 .f32) (ix2 (y 0) a))
    (fun b j => (V m c main_v6 : Vec Ideal S5x100x196 .bf16) (ix3 b (y 0) j))
    (fun j k => (V m c main_v16 : Vec Ideal S196x3136 .bf16) (ix2 j k))
    (fun b k => (V m c main_v9 : Vec Ideal S5x100x3136 .bf16) (ix3 b (y 0) k)) (y 1)

/-- The windows' block indices: the point on the axis of detections. -/
theorem index_eq : ∀ t : Fin cfg0.N, win0_0.index t = ![(grid0.coords t 0).val, 0]
    ∧ win0_1.index t = ![0, (grid0.coords t 0).val, 0] ∧ win0_2.index t = ![0, 0]
    ∧ win0_3.index t = ![0, (grid0.coords t 0).val, 0] ∧ win0_4.index t = ![(grid0.coords t 0).val, 0] :=
  (by decide +kernel : ∀ t : Fin grid0.N, _)

/-- The inputs' transfers move as many rows as the result's, whole on the other axes. -/
theorem xsize_eq : ∀ t : Fin cfg0.N,
    (win0_0.xsize (grid0.coords t) 0 = win0_4.xsize (grid0.coords t) 0 ∧ win0_0.xsize (grid0.coords t) 1 = 85)
    ∧ (win0_1.xsize (grid0.coords t) 0 = 5 ∧ win0_1.xsize (grid0.coords t) 1 = win0_4.xsize (grid0.coords t) 0
      ∧ win0_1.xsize (grid0.coords t) 2 = 196)
    ∧ (win0_3.xsize (grid0.coords t) 0 = 5 ∧ win0_3.xsize (grid0.coords t) 1 = win0_4.xsize (grid0.coords t) 0
      ∧ win0_3.xsize (grid0.coords t) 2 = 3136) :=
  (by decide +kernel : ∀ t : Fin grid0.N, _)

/-- The rows' buffer inside the array. -/
theorem fill_0 (c : Dev nD) (t : Fin cfg0.N) (d) (y : (win0_4.xblock (grid0.coords t)).Idx) (a : Fin 85) :
    win0_0.fill (grid0.coords t) d (iblk m c 0 t) (ix2 (win0_4.xinj (grid0.coords t) y 0) a)
      = (V m c main_v1 : Vec Ideal S100x85 .f32) (ix2 (((cfg0.win 4).blk t).view.emb y 0) a) := by
  have h : win0_0.moved (grid0.coords t) (ix2 (win0_4.xinj (grid0.coords t) y 0) a) = true := by
    rw [Window.moved_iff]
    intro b
    fin_cases b
    · exact lt_of_lt_of_eq (y 0).isLt (xsize_eq t).1.1.symm
    · exact lt_of_lt_of_eq a.isLt (xsize_eq t).1.2.symm
  unfold Window.fill
  rw [dif_pos h]
  blk_simp [iblk]
  obtain ⟨e0, e1, e2, e3, e4⟩ := index_eq t
  blk_ext [e0, e4]

/-- The attention's buffer inside the array. -/
theorem fill_1 (c : Dev nD) (t : Fin cfg0.N) (d) (y : (win0_4.xblock (grid0.coords t)).Idx) (b : Fin 5) (j : Fin 196) :
    win0_1.fill (grid0.coords t) d (iblk m c 1 t) (ix3 b (win0_4.xinj (grid0.coords t) y 0) j)
      = (V m c main_v6 : Vec Ideal S5x100x196 .bf16) (ix3 b (((cfg0.win 4).blk t).view.emb y 0) j) := by
  have h : win0_1.moved (grid0.coords t) (ix3 b (win0_4.xinj (grid0.coords t) y 0) j) = true := by
    rw [Window.moved_iff]
    intro i
    fin_cases i
    · exact lt_of_lt_of_eq b.isLt (xsize_eq t).2.1.1.symm
    · exact lt_of_lt_of_eq (y 0).isLt (xsize_eq t).2.1.2.1.symm
    · exact lt_of_lt_of_eq j.isLt (xsize_eq t).2.1.2.2.symm
  unfold Window.fill
  rw [dif_pos h]
  blk_simp [iblk]
  obtain ⟨e0, e1, e2, e3, e4⟩ := index_eq t
  blk_ext [e1, e4]

/-- The bases' buffer inside the array. -/
theorem fill_3 (c : Dev nD) (t : Fin cfg0.N) (d) (y : (win0_4.xblock (grid0.coords t)).Idx) (b : Fin 5) (k : Fin 3136) :
    win0_3.fill (grid0.coords t) d (iblk m c 3 t) (ix3 b (win0_4.xinj (grid0.coords t) y 0) k)
      = (V m c main_v9 : Vec Ideal S5x100x3136 .bf16) (ix3 b (((cfg0.win 4).blk t).view.emb y 0) k) := by
  have h : win0_3.moved (grid0.coords t) (ix3 b (win0_4.xinj (grid0.coords t) y 0) k) = true := by
    rw [Window.moved_iff]
    intro i
    fin_cases i
    · exact lt_of_lt_of_eq b.isLt (xsize_eq t).2.2.1.symm
    · exact lt_of_lt_of_eq (y 0).isLt (xsize_eq t).2.2.2.1.symm
    · exact lt_of_lt_of_eq k.isLt (xsize_eq t).2.2.2.2.symm
  unfold Window.fill
  rw [dif_pos h]
  blk_simp [iblk]
  obtain ⟨e0, e1, e2, e3, e4⟩ := index_eq t
  blk_ext [e3, e4]

/-- The weights' buffer is the weights. -/
theorem read_2 (c : Dev nD) (t : Fin cfg0.N) (j : Fin 196) (k : Fin 3136) :
    (iblk m c 2 t : Vec Ideal S196x3136 .bf16) (ix2 j k) = (V m c main_v16 : Vec Ideal S196x3136 .bf16) (ix2 j k) := by
  blk_simp [iblk]
  obtain ⟨e0, e1, e2, e3, e4⟩ := index_eq t
  blk_ext [e2]

/-- What the body's block holds inside the array, whatever the buffers hold past its end. -/
theorem out_inside (c : Dev nD) (t : Fin cfg0.N) (d0) (d1) (d3) (y : (win0_4.xblock (grid0.coords t)).Idx) :
    out (win0_0.fill (grid0.coords t) d0 (iblk m c 0 t)) (win0_1.fill (grid0.coords t) d1 (iblk m c 1 t))
        (iblk m c 2 t) (win0_3.fill (grid0.coords t) d3 (iblk m c 3 t)) (win0_4.xinj (grid0.coords t) y)
      = whole m c (((cfg0.win 4).blk t).view.emb y) := by
  have e : win0_4.xinj (grid0.coords t) y
      = ix2 (win0_4.xinj (grid0.coords t) y 0) (win0_4.xinj (grid0.coords t) y 1) := by
    funext a
    fin_cases a <;> rfl
  have e1 : win0_4.xinj (grid0.coords t) y 1 = (((cfg0.win 4).blk t).view.emb y 1 : Fin 3143) := by
    obtain ⟨e0, e1, e2, e3, e4⟩ := index_eq t
    apply Fin.ext
    show (y 1).val = win0_4.index t 1 * 3143 + 1 * (y 1).val
    rw [e4]
    show (y 1).val = 0 * 3143 + 1 * (y 1).val
    omega
  rw [e]
  refine (out_row _ _ _ _ (win0_4.xinj (grid0.coords t) y 0) (win0_4.xinj (grid0.coords t) y 1)).trans ?_
  exact row_congr (fun a => fill_0 m c t d0 y a) (fun b j => fill_1 m c t d1 y b j) (fun j k => read_2 m c t j k)
    (fun b k => fill_3 m c t d3 y b k) e1

end Cert.KernelIdeal.Masks

end
-- ==== Proof.Ideal.Run.lean ====
/-
  The idealized program runs: `run`. The arguments end unchanged, every counter at zero, and the result array at
  `whole`: each of its rows is the row function of that row's data, the overhang of the last block dropped.
-/
module

public import proofs.«01_k».proof.Proof.Ideal.Rows

@[expose] public section

set_option maxRecDepth 16384

noncomputable section

namespace Cert.KernelIdeal.Masks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body -/

/-- One whole store covers the result's buffer. -/
theorem stored_covers (p : Vec Ideal S16x3143 .f32) (y : S16x3143.Idx) :
    ∃ pc ∈ ([⟨Rect.unit (s := S16x3143) ![0, 0] S16x3143.size inb_S16x3143_S16x3143_0_0, p⟩] :
      List (View.Piece (Elt Ideal) S16x3143 .f32)), y ∈ pc.1.set :=
  View.cover_of_tiled [⟨Rect.unit (s := S16x3143) ![0, 0] S16x3143.size inb_S16x3143_S16x3143_0_0, p⟩] S16x3143.size
    (by rfl) y

/-- The one store over the whole of the four loads is `out`. -/
theorem stored_eq (x0 : Vec Ideal S16x85 .f32) (x1 : Vec Ideal S5x16x196 .bf16) (x2 : Vec Ideal S196x3136 .bf16)
    (x3 : Vec Ideal S5x16x3136 .bf16) :
    View.canon [⟨Rect.unit (s := S16x3143) ![0, 0] S16x3143.size inb_S16x3143_S16x3143_0_0,
      out (View.ld x0 (Rect.unit (s := S16x85) ![0, 0] S16x85.size inb_S16x85_S16x85_0_0))
        (View.ld x1 (Rect.unit (s := S5x16x196) ![0, 0, 0] S5x16x196.size inb_S5x16x196_S5x16x196_0_0_0))
        (View.ld x2 (Rect.unit (s := S196x3136) ![0, 0] S196x3136.size inb_S196x3136_S196x3136_0_0))
        (View.ld x3 (Rect.unit (s := S5x16x3136) ![0, 0, 0] S5x16x3136.size inb_S5x16x3136_S5x16x3136_0_0_0))⟩]
      = out x0 x1 x2 x3 := by
  frame_out

set_option maxHeartbeats 1000000 in
/-- The body, on whole staging buffers: it reads the four inputs, which end as they were, and leaves `out` of them in
    the result's. -/
theorem body_runs (c : Dev nD) (E : Set ℕ) (i : grid0.Coords)
    (rows : Memref sig .tc .vmem S16x85 .f32) (hrows : rows.IsWhole)
    (attn : Memref sig .tc .vmem S5x16x196 .bf16) (hattn : attn.IsWhole)
    (wts : Memref sig .tc .vmem S196x3136 .bf16) (hwts : wts.IsWhole)
    (bases : Memref sig .tc .vmem S5x16x3136 .bf16) (hbases : bases.IsWhole)
    (res : Memref sig .tc .vmem S16x3143 .f32) (hres : res.IsWhole)
    (x0 : Vec Ideal S16x85 .f32) (x1 : Vec Ideal S5x16x196 .bf16) (x2 : Vec Ideal S196x3136 .bf16)
    (x3 : Vec Ideal S5x16x3136 .bf16) (x4 : Vec Ideal S16x3143 .f32) (K : PUnit → sProp 𝕄) :
    iprop(owns (c : Thread nD τ) rows fullShare x0 ∗ owns (c : Thread nD τ) attn fullShare x1
        ∗ owns (c : Thread nD τ) wts fullShare x2 ∗ owns (c : Thread nD τ) bases fullShare x3
        ∗ owns (c : Thread nD τ) res fullShare x4
        ∗ (iprop(owns (c : Thread nD τ) rows fullShare x0 ∗ owns (c : Thread nD τ) attn fullShare x1
            ∗ owns (c : Thread nD τ) wts fullShare x2 ∗ owns (c : Thread nD τ) bases fullShare x3
            ∗ owns (c : Thread nD τ) res fullShare (out x0 x1 x2 x3)) -∗ K ⟨⟩))
      ⊢ wp frame (wpE (defs₀ (F := Ideal)) Variants.none c none) E
          (cc0__fused_kernel i rows hrows attn hattn wts hwts bases hbases res hres) K := by
  rw [← stored_eq x0 x1 x2 x3]
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The proof data -/

/-- The inputs' buffers at their blocks, filled out past the arrays' ends with zeros. -/
def rows0 (c : Dev nD) (t : Fin cfg0.N) : Vec Ideal S16x85 .f32 :=
  win0_0.fill (grid0.coords t) (fun _ => (0 : EReal)) (iblk m c 0 t)
def attn0 (c : Dev nD) (t : Fin cfg0.N) : Vec Ideal S5x16x196 .bf16 :=
  win0_1.fill (grid0.coords t) (fun _ => (0 : EReal)) (iblk m c 1 t)
def bases0 (c : Dev nD) (t : Fin cfg0.N) : Vec Ideal S5x16x3136 .bf16 :=
  win0_3.fill (grid0.coords t) (fun _ => (0 : EReal)) (iblk m c 3 t)

/-- Core `c`'s proof data: the arrays as the region finds them; each input's buffer left at its block, the result's
    at `out` of those. -/
def dats (_ : Fin 1) (c : Dev nD) : Dat τ (Elt Ideal) Unit ℕ (UR sig nD τ) ℕ cfg0 c where
  A w := V m c (Pipeline.arrRef spec0 w)
  after w t := match w with
    | ⟨0, _⟩ => rows0 m c t
    | ⟨1, _⟩ => attn0 m c t
    | ⟨2, _⟩ => iblk m c 2 t
    | ⟨3, _⟩ => bases0 m c t
    | ⟨4, _⟩ => out (rows0 m c t) (attn0 m c t) (iblk m c 2 t) (bases0 m c t)
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- The weights' buffer is left at the weights, -/
theorem after_2 (c : Dev nD) (t : Fin cfg0.N) : (dats m 0 c).after 2 t = iblk m c 2 t := by dsimp only [dats]
/-- the rows', the attention's and the bases' at their blocks on the rows inside the arrays, -/
theorem cut_0 (c : Dev nD) (t : Fin cfg0.N) :
    (cfg0.win 0).cut (grid0.coords t) ((dats m 0 c).after 0 t) = iblk m c 0 t := by
  dsimp only [dats]; exact win0_0.cut_fill _ _ _
theorem cut_1 (c : Dev nD) (t : Fin cfg0.N) :
    (cfg0.win 1).cut (grid0.coords t) ((dats m 0 c).after 1 t) = iblk m c 1 t := by
  dsimp only [dats]; exact win0_1.cut_fill _ _ _
theorem cut_3 (c : Dev nD) (t : Fin cfg0.N) :
    (cfg0.win 3).cut (grid0.coords t) ((dats m 0 c).after 3 t) = iblk m c 3 t := by
  dsimp only [dats]; exact win0_3.cut_fill _ _ _
/-- and the result's at `out`. -/
theorem after_4 (c : Dev nD) (t : Fin cfg0.N) :
    (dats m 0 c).after 4 t = out (rows0 m c t) (attn0 m c t) (iblk m c 2 t) (bases0 m c t) := by dsimp only [dats]

/-- What the body finds: the block just fetched, filled out with the words `d` the buffer holds past the end. -/
theorem before_0 (c : Dev nD) (t : Fin cfg0.N) (d) :
    (dats m 0 c).before 0 t d = (cfg0.win 0).fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = (cfg0.win 1).fill (grid0.coords t) d (iblk m c 1 t) := by
  unfold Dat.before; rw [if_pos (fetch0_1 t)]; unfold Dat.fetched Dat.blockOf iblk; rw [A_eq]
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) :
    (dats m 0 c).before 3 t d = (cfg0.win 3).fill (grid0.coords t) d (iblk m c 3 t) := by
  unfold Dat.before; rw [if_pos (fetch0_3 t)]; unfold Dat.fetched Dat.blockOf iblk; rw [A_eq]

/-- Inside the array what the body leaves does not depend on what the buffers held past the arrays' ends. -/
theorem cut_4 (c : Dev nD) (t : Fin cfg0.N) (d0) (d1) (d3) :
    (cfg0.win 4).cut (grid0.coords t) (out (win0_0.fill (grid0.coords t) d0 (iblk m c 0 t))
        (win0_1.fill (grid0.coords t) d1 (iblk m c 1 t)) (iblk m c 2 t) (win0_3.fill (grid0.coords t) d3 (iblk m c 3 t)))
      = (cfg0.win 4).cut (grid0.coords t) ((dats m 0 c).after 4 t) := by
  rw [after_4]
  funext y
  exact (out_inside m c t d0 d1 d3 y).trans (out_inside m c t _ _ _ y).symm

/-! ## The body obligation -/

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

set_option maxHeartbeats 1000000 in
/-- At every point the body takes each input's buffer at its block and hands it back so, the result's at `out`. -/
theorem body_obligation (c : Dev nD) :
    BodyObligationLoose (dats m 0 c) (defs₀ (F := Ideal)) Variants.none () Set.univ := fun t => by
  rw [bigSep_W0, bigSep_W0, defs₀_row]
  change iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := Ideal)) Variants.none c none) Set.univ (bodyAt0 t) fun _ =>
      iprop((dats m 0 c).Φ t.castSucc ∗ (dats m 0 c).owesAt () t.castSucc
      ∗ (∃ d, owns (c : Thread nD τ) (st0_0 t) fullShare ((cfg0.win 0).fill (grid0.coords t) d ((cfg0.win 0).cut (grid0.coords t) ((dats m 0 c).after 0 t))))
      ∗ (∃ d, owns (c : Thread nD τ) (st0_1 t) fullShare ((cfg0.win 1).fill (grid0.coords t) d ((cfg0.win 1).cut (grid0.coords t) ((dats m 0 c).after 1 t))))
      ∗ owns (c : Thread nD τ) (st0_2 t) fullShare ((dats m 0 c).after 2 t)
      ∗ (∃ d, owns (c : Thread nD τ) (st0_3 t) fullShare ((cfg0.win 3).fill (grid0.coords t) d ((cfg0.win 3).cut (grid0.coords t) ((dats m 0 c).after 3 t))))
      ∗ (∃ d, owns (c : Thread nD τ) (st0_4 t) fullShare ((cfg0.win 4).fill (grid0.coords t) d ((cfg0.win 4).cut (grid0.coords t) ((dats m 0 c).after 4 t)))))
  rw [cut_0, cut_1, cut_3, after_2]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, ← cut_4 m c t d0 d1 d3]
  iapply (body_runs c Set.univ (grid0.coords t) _ _ _ _ _ _ _ _ _ _ _ _ _ _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexists d3; iexact H3
  iexists _
  rw [Window.fill_cut]
  iexact H4

/-! ## The run -/

set_option backward.isDefEq.respectTransparency.types false in
set_option maxHeartbeats 800000 in
/-- From any memory with zero counters, every fair execution of @main ends; at its end every array is what the
    proof data makes of it, every other buffer as the region found it, and every counter zero. -/
theorem run_main : θ_run defs (onTc (τ := τ) (main (F := Ideal))) (s₀ m ρ) (fun r =>
    Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The result array at the end: the blocks' rows inside it cover it. -/
theorem final (c : Dev nD) : (dats m 0 c).arrAt 4 (cfgs 0).N = whole m c := by
  refine (dats m 0 c).arrAt_eq_of_covers 4 _ (by decide +kernel) fun t _ y => ?_
  rw [after_4]
  exact out_inside m c t _ _ _ y

/-- The run: the four arguments end unchanged, the result at `whole`, and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v17) = whole m c)
      ∧ r.2.sem = fun _ => 0) :=
  (θ_run defs _ _).mono (fun _ h => ⟨fun c =>
    ⟨⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c)⟩,
     ((h.1 c).1 4).trans (final m c)⟩, h.2⟩)
    (run_main m ρ)

end Cert.KernelIdeal.Masks

end
-- ==== Proof.Ideal.Operands.lean ====
/-
  What the region finds in its four input arrays, at coordinates, over the arguments: detection `i` is row `100 + i`.
-/
module

public import proofs.«01_k».proof.Proof.Ideal.Run
public import Idealize.ShloMosaic.Lib.StableHlo.RunRead

@[expose] public section

set_option maxRecDepth 65536

noncomputable section

namespace Cert.KernelIdeal.Masks

open Cert.KernelIdeal Cert.KernelIdeal.Gen
open Idealize.ShloMosaic Idealize.ShloMosaic.TcCoe
open Cert.Masks

variable (m : (ℓ : Loc nD τ sig) → Buf (Elt Ideal) ℓ)

/-- The rows. -/
theorem rows_at (c : Dev nD) (i : Fin 100) (a : Fin 85) :
    (V m c main_v1 : Vec Ideal S100x85 .f32) (ix2 i a)
      = (m ((c : Thread nD τ).loc main_arg0) : Vec Ideal S1x20000x85 .f32) (ix3 0 ⟨100 + i.val, by omega⟩ a) := by
  have e : (V m c main_v1 : Vec Ideal S100x85 .f32) = shapeCast S100x85 (extractStridedSlice S1x100x85 ![0, 100, 0]
      (m ((c : Thread nD τ).loc main_arg0) : Vec Ideal S1x20000x85 .f32) slices_S1x20000x85_S1x100x85_0_100_0)
      shapeCasts_S1x100x85_S100x85 := by
    after_reads_simp <;> rfl
  rw [e]
  pointwise

/-- The attention logits: five maps of 14 × 14, each in a line. -/
theorem attn_at (c : Dev nD) (b : Fin 5) (i : Fin 100) (j : Fin 196) :
    (V m c main_v6 : Vec Ideal S5x100x196 .bf16) (ix3 b i j)
      = (m ((c : Thread nD τ).loc main_arg1) : Vec Ideal S1x20000x980 .f32)
          (ix3 0 ⟨100 + i.val, by omega⟩ ⟨b.val * 196 + j.val, by omega⟩) := by
  have e : (V m c main_v6 : Vec Ideal S5x100x196 .bf16)
      = (truncf .bf16 (transpose S5x100x196 [1, 0, 2] (shapeCast S100x5x196 (shapeCast S100x980
        (extractStridedSlice S1x100x980 ![0, 100, 0] (m ((c : Thread nD τ).loc main_arg1) : Vec Ideal S1x20000x980 .f32)
          slices_S1x20000x980_S1x100x980_0_100_0) shapeCasts_S1x100x980_S100x980) shapeCasts_S100x980_S100x5x196)
        transposes_S100x5x196_S5x100x196_1_0_2) bitsLt_bf16_f32 : FVec Ideal _ _) := by
    after_reads_simp <;> rfl
  rw [e]
  pointwise

/-- The bases: each 56 × 56 in a line. -/
theorem bases_at (c : Dev nD) (b : Fin 5) (i : Fin 100) (k : Fin 3136) :
    (V m c main_v9 : Vec Ideal S5x100x3136 .bf16) (ix3 b i k)
      = (m ((c : Thread nD τ).loc main_arg3) : Vec Ideal S100x5x56x56 .f32)
          (ix4 i b ⟨k.val / 56, by omega⟩ ⟨k.val % 56, by omega⟩) := by
  have e : (V m c main_v9 : Vec Ideal S5x100x3136 .bf16)
      = (truncf .bf16 (shapeCast S5x100x3136 (transpose S5x100x56x56 [1, 0, 2, 3]
        (m ((c : Thread nD τ).loc main_arg3) : Vec Ideal S100x5x56x56 .f32) transposes_S100x5x56x56_S5x100x56x56_1_0_2_3)
        shapeCasts_S5x100x56x56_S5x100x3136) bitsLt_bf16_f32 : FVec Ideal _ _) := by
    after_reads_simp <;> rfl
  rw [e]
  pointwise

/-- The resizing's weights on one axis, as the constant the host holds. -/
def axis : FVec Ideal S14x56 .f32 := fun i => FloatOps.ofBits .f32 (lit0 (S14x56.rowMajor i))

/-- The weights on both axes: the product of the two axes' weights. -/
theorem weights_at (c : Dev nD) (j : Fin 196) (k : Fin 3136) :
    (V m c main_v16 : Vec Ideal S196x3136 .bf16) (ix2 j k)
      = axis (ix2 ⟨j.val / 14, by omega⟩ ⟨k.val / 56, by omega⟩) * axis (ix2 ⟨j.val % 14, by omega⟩ ⟨k.val % 56, by omega⟩) := by
  have e : (V m c main_v16 : Vec Ideal S196x3136 .bf16)
      = (truncf .bf16 (shapeCast S196x3136 (mulf
          (broadcastInDim S14x14x56x56 ![0, 1, 2, 3] bcast_S14x1x56x1_S14x14x56x56_0_1_2_3
            (broadcastInDim S14x1x56x1 ![0, 2] bcast_S14x56_S14x1x56x1_0_2 axis))
          (broadcastInDim S14x14x56x56 ![0, 1, 2, 3] bcast_S1x14x1x56_S14x14x56x56_0_1_2_3
            (broadcastInDim S1x14x1x56 ![1, 3] bcast_S14x56_S1x14x1x56_1_3 axis)))
        shapeCasts_S14x14x56x56_S196x3136) bitsLt_bf16_f32 : FVec Ideal _ _) := by
    after_reads_simp <;> rfl
  rw [e]
  pointwise

end Cert.KernelIdeal.Masks

end
-- ==== Proof.Reference.Ops.lean ====
/-
  The reference as one line of host operations: `line`, and the run `run_line` of the program to it. A read of the
  final memory is then taken stretch by stretch (`line_cut`), so that a value several later operations use is computed
  once.
-/
module

public import proofs.«01_k».proof.Proof.Gen.ReferenceIdeal
public import Idealize.ShloMosaic.PureOps.Ideal
public import Idealize.ShloMosaic.Lib.Claim
public import Idealize.ShloMosaic.Adequacy
public import Idealize.ShloMosaic.Init
public import Idealize.ShloMosaic.Lib.StableHlo.RunRead

@[expose] public section

set_option maxRecDepth 65536

noncomputable section

namespace Cert.ReferenceIdeal.Masks

open Cert.ReferenceIdeal
open Idealize.ShloMosaic Idealize.ShloMosaic.TcCoe
open Idealize.SL.Sem
open Idealize.ShloMosaic.StableHlo (IsSeq after upto launchContents)

set_option maxHeartbeats 4000000 in
/-- The operations of the program, in order: a straight line, the same on every device. -/
def lineOf : {ops : List (HloOp τ sig (Elt Ideal)) // ∀ d : Dev nD, IsSeq (main (F := Ideal) d) ops} := by
  apply Subtype.mk
  hlo_seq

/-- The line of operations. -/
def line : List (HloOp τ sig (Elt Ideal)) := lineOf.1

set_option maxHeartbeats 4000000 in
/-- Every operation works on the program's buffers, -/
theorem line_bufs : line.Forall fun op => op.bufs ⊆ StableHlo.tcRefs τ sig := by
  unfold line lineOf
  simp

set_option maxHeartbeats 4000000 in
/-- and allocates nothing. -/
theorem line_fresh : ∀ op ∈ line, op.fresh = ∅ := by
  unfold line lineOf
  intro op h
  (repeat (cases h with | head => rfl | tail _ h => ?_))
  exact nomatch h

/-- The program runs to the line's contents at every buffer. -/
theorem run_line (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = after line (launchContents m d) (Proc.devRef .tc b) :=
  StableHlo.run_hlo _ _ lineOf.2 (by decide) (by decide) line_bufs line_fresh _ _

/-- Running one line after another. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The operations `i`, …, `j - 1` of the line. -/
def stretch (i j : ℕ) : List (HloOp τ sig (Elt Ideal)) := (line.take j).drop i

/-- The contents after the first `j` operations are what the operations from `i` on make of those after the first `i`. -/
theorem line_cut {i j : ℕ} (h : i ≤ j) (V : Valuation τ sig (Elt Ideal)) :
    upto line V j = after (stretch i j) (upto line V i) := by
  unfold upto stretch
  have e : line.take i = (line.take j).take i := by rw [List.take_take, Nat.min_eq_left h]
  rw [e, ← after_append, List.take_append_drop]

/-- The whole line is its first 262 operations. -/
theorem line_all (V : Valuation τ sig (Elt Ideal)) : after line V = upto line V 262 := rfl

end Cert.ReferenceIdeal.Masks

end
-- ==== Proof.Reference.Values.lean ====
/-
  What the reference computes: its result buffer as a function `result` of the three arguments it reads. The line of
  operations is read in five stretches — what comes before the resizing, the two weight matrices of the resizing, the
  resizing itself, and the rest — each over whatever the earlier ones left.
-/
module

public import proofs.«01_k».proof.Proof.Reference.Ops

@[expose] public section

set_option maxRecDepth 65536

noncomputable section

namespace Cert.ReferenceIdeal.Masks

open Cert.ReferenceIdeal Cert.ReferenceIdeal.Facts₀
open Idealize.ShloMosaic Idealize.ShloMosaic.TcCoe
open Idealize.SL.Sem
open Idealize.ShloMosaic.StableHlo (after upto launchContents)

/-! ## The resizing's weights -/

/-- The place, in the coarse row of 14, of each of the 56 fine ones: `(i + 1/2) / 4 - 1/2`. -/
def place : FVec Ideal S56 .f32 :=
  subf (subf (mulf (addf (sitofp .f32 (iotaInDim S56 32 0)) (broadcastInDim S56 ![] bcast_S_S56 (constant S_ .f32 0x3F000000#32)))
    (broadcastInDim S56 ![] bcast_S_S56 (constant S_ .f32 0x3E800000#32)))
    (broadcastInDim S56 ![] bcast_S_S56 (constant S_ .f32 0x00000000#32)))
    (broadcastInDim S56 ![] bcast_S_S56 (constant S_ .f32 0x3F000000#32))

/-- The triangle of each coarse place, at the fine ones. -/
def hat : FVec Ideal S14x56 .f32 :=
  maximumf (broadcastInDim S14x56 ![] bcast_S_S14x56 (constant S_ .f32 0x00000000#32))
    (subf (broadcastInDim S14x56 ![] bcast_S_S14x56 (constant S_ .f32 0x3F800000#32))
      (Host.absf (Host.divf
        (Host.absf (subf
          (broadcastInDim S14x56 ![0, 1] bcast_S1x56_S14x56_0_1 (broadcastInDim S1x56 ![1] bcast_S56_S1x56_1 place))
          (broadcastInDim S14x56 ![0, 1] bcast_S14x1_S14x56_0_1
            (broadcastInDim S14x1 ![0] bcast_S14_S14x1_0 (sitofp .f32 (iotaInDim S14 32 0))))))
        (broadcastInDim S14x56 ![] bcast_S_S14x56
          (maximumf (constant (F := Ideal) S_ .f32 0x3E800000#32) (constant S_ .f32 0x3F800000#32))))))

/-- The triangles' sum at each fine place. -/
def total : FVec Ideal S1x56 .f32 :=
  broadcastInDim S1x56 ![1] bcast_S56_S1x56_1
    (Host.reduceAdd hat (constant S_ .f32 0x00000000#32) reducesTo_S14x56_S56_d0 h_S_)

/-- The triangles over their sum, where that is not zero. -/
def scaled : FVec Ideal S14x56 .f32 :=
  select
    (broadcastInDim S14x56 ![0, 1] bcast_S1x56_S14x56_0_1
      (cmpf .ogt (Host.absf total) (broadcastInDim S1x56 ![] bcast_S_S1x56 (constant S_ .f32 0x38FA0000#32))))
    (Host.divf hat (broadcastInDim S14x56 ![0, 1] bcast_S1x56_S14x56_0_1
      (select (cmpf .une total (broadcastInDim S1x56 ![] bcast_S_S1x56 (constant S_ .f32 0x00000000#32))) total
        (broadcastInDim S1x56 ![] bcast_S_S1x56 (sitofp .f32 (constantI S_ 32 1#32))))))
    (broadcastInDim S14x56 ![] bcast_S_S14x56 (sitofp .f32 (constantI S_ 32 0#32)))

/-- The weights: the scaled triangles at the fine places inside the coarse row. -/
def weights : FVec Ideal S14x56 .f32 :=
  select
    (broadcastInDim S14x56 ![0, 1] bcast_S1x56_S14x56_0_1 (broadcastInDim S1x56 ![1] bcast_S56_S1x56_1
      (andi (cmpf .oge place (broadcastInDim S56 ![] bcast_S_S56 (constant S_ .f32 0xBF000000#32)))
        (cmpf .ole place (broadcastInDim S56 ![] bcast_S_S56 (constant S_ .f32 0x41580000#32))))))
    scaled
    (broadcastInDim S14x56 ![] bcast_S_S14x56 (sitofp .f32 (constantI S_ 32 0#32)))

/-! ## The selected rows -/

/-- The class scores of every row: its last 80 columns times its confidence. -/
def scores (x0 : FVec Ideal S1x20000x85 .f32) : FVec Ideal S1x20000x80 .f32 :=
  mulf (extractStridedSlice S1x20000x80 ![0, 0, 5] x0 slices_S1x20000x85_S1x20000x80_0_0_5)
    (broadcastInDim S1x20000x80 ![0, 1, 2] bcast_S1x20000x1_S1x20000x80_0_1_2
      (extractStridedSlice S1x20000x1 ![0, 0, 4] x0 slices_S1x20000x85_S1x20000x1_0_0_4))

/-- The corners of every row's box: centre and size times the 4 × 4 conversion. -/
def boxes (x0 : FVec Ideal S1x20000x85 .f32) : FVec Ideal S1x20000x4 .f32 :=
  Host.dotGeneral dot_S1x20000x4_S4x4_S1x20000x4_2_0_01_1_n_n none
    (extractStridedSlice S1x20000x4 ![0, 0, 0] x0 slices_S1x20000x85_S1x20000x4_0_0_0)
    (fun i => FloatOps.ofBits .f32 (lit0 (S4x4.rowMajor i)))

/-- The top score of every row. -/
def tops (x0 : FVec Ideal S1x20000x85 .f32) : FVec Ideal S1x20000x1 .f32 :=
  broadcastInDim S1x20000x1 ![0, 1] bcast_S1x20000_S1x20000x1_0_1
    (Host.reduce FloatOps.maximumf (scores x0) (constant S_ .f32 0xFF800000#32) reducesTo_S1x20000x80_S1x20000_d2 h_S_)

/-- The class of the top score of every row. -/
def classes (x0 : FVec Ideal S1x20000x85 .f32) : IVec S1x20000x1 32 :=
  broadcastInDim S1x20000x1 ![0, 1] bcast_S1x20000_S1x20000x1_0_1
    (fun j => (Host.argReduce reducer_argmax_f32_i32 (scores x0) (iotaInDim S1x20000x80 32 2) (constant S_ .f32 0xFF800000#32)
      (constantI S_ 32 0#32) reducesTo_S1x20000x80_S1x20000_d2 h_S_ j).2)

/-- The batch index 0 of each selected row, -/
def zeros : IVec S100 32 := broadcastInDim S100 ![] bcast_S_S100 (constantI S_ 32 0#32)
/-- and its row index, 100 on. -/
def picks : IVec S100 32 :=
  addi (broadcastInDim S100 ![] bcast_S_S100 (constantI S_ 32 100#32)) (iotaInDim S100 32 0)

/-- An index counted from the end when it is negative. -/
def wrapped (i : IVec S100 32) (n : BitVec 32) : IVec S100 32 :=
  select (cmpi .slt i (broadcastInDim S100 ![] bcast_S_S100 (constantI S_ 32 0#32)))
    (addi i (broadcastInDim S100 ![] bcast_S_S100 (constantI S_ 32 n))) i

/-- The pairs of indices the rows are gathered at. -/
def pairs : IVec S100x2 32 :=
  concatenate S100x2 1
    [⟨S100x1, broadcastInDim S100x1 ![0] bcast_S100_S100x1_0 (wrapped zeros 1#32)⟩,
     ⟨S100x1, broadcastInDim S100x1 ![0] bcast_S100_S100x1_0 (wrapped picks 20000#32)⟩]
    concatenates_S100x1_S100x1_S100x2_d1

/-- The selected boxes, -/
def selBoxes (x0 : FVec Ideal S1x20000x85 .f32) : FVec Ideal S100x4 .f32 :=
  Host.gather gather_S1x20000x4_S100x2_S100x4_1_01_n_n_01_1_114 (boxes x0) pairs
/-- classes, as floats, -/
def selClasses (x0 : FVec Ideal S1x20000x85 .f32) : FVec Ideal S100x1 .f32 :=
  sitofp .f32 (Host.gather gather_S1x20000x1_S100x2_S100x1_1_01_n_n_01_1_111 (classes x0) pairs)
/-- top scores -/
def selTops (x0 : FVec Ideal S1x20000x85 .f32) : FVec Ideal S100x1 .f32 :=
  Host.gather gather_S1x20000x1_S100x2_S100x1_1_01_n_n_01_1_111 (tops x0) pairs
/-- and attention logits, as five 14 × 14 maps. -/
def selAttn (x1 : FVec Ideal S1x20000x980 .f32) : FVec Ideal S100x5x14x14 .f32 :=
  shapeCast S100x5x14x14 (Host.gather gather_S1x20000x980_S100x2_S100x980_1_01_n_n_01_1_11980 x1 pairs)
    shapeCasts_S100x980_S100x5x14x14

/-! ## The masks -/

/-- The resizing of the maps by weights on rows and on columns. -/
def resizedBy (wr wc : FVec Ideal S14x56 .f32) (a : FVec Ideal S100x5x14x14 .f32) : FVec Ideal S100x5x56x56 .f32 :=
  transpose S100x5x56x56 [1, 2, 0, 3]
    (Host.dotGeneral dot_S56x100x5x14_S14x56_S56x100x5x56_3_0_012_1_n_n (some .fp32)
      (Host.dotGeneral dot_S14x56_S100x5x14x14_S56x100x5x14_0_2_1_013_n_n (some .fp32) wr a) wc)
    transposes_S56x100x5x56_S100x5x56x56_1_2_0_3

/-- The greatest of the five maps, spread over the five. -/
def peak (a : FVec Ideal S100x5x56x56 .f32) : FVec Ideal S100x5x56x56 .f32 :=
  broadcastInDim S100x5x56x56 ![0, 1, 2, 3] bcast_S100x1x56x56_S100x5x56x56_0_1_2_3
    (broadcastInDim S100x1x56x56 ![0, 2, 3] bcast_S100x56x56_S100x1x56x56_0_2_3
      (maximumf (broadcastInDim S100x56x56 ![] bcast_S_S100x56x56 (constant S_ .f32 0xFF800000#32))
        (Host.reduce FloatOps.maximumf a (constant S_ .f32 0xFF800000#32) reducesTo_S100x5x56x56_S100x56x56_d1 h_S_)))

/-- The exponentials of the maps less the greatest. -/
def expo (a : FVec Ideal S100x5x56x56 .f32) : FVec Ideal S100x5x56x56 .f32 := Host.exp (subf a (peak a))

/-- The softmax across the five maps. -/
def soft (a : FVec Ideal S100x5x56x56 .f32) : FVec Ideal S100x5x56x56 .f32 :=
  Host.divf (expo a)
    (broadcastInDim S100x5x56x56 ![0, 1, 2, 3] bcast_S100x1x56x56_S100x5x56x56_0_1_2_3
      (broadcastInDim S100x1x56x56 ![0, 2, 3] bcast_S100x56x56_S100x1x56x56_0_2_3
        (Host.reduceAdd (expo a) (constant S_ .f32 0x00000000#32) reducesTo_S100x5x56x56_S100x56x56_d1 h_S_)))

/-- The bases blended by the softmax, a row per detection. -/
def blend (x3 a : FVec Ideal S100x5x56x56 .f32) : FVec Ideal S100x3136 .f32 :=
  shapeCast S100x3136
    (Host.reduceAdd (mulf x3 (soft a)) (constant S_ .f32 0x00000000#32) reducesTo_S100x5x56x56_S100x56x56_d1 h_S_)
    shapeCasts_S100x56x56_S100x3136

/-- The masks: the blend through the sigmoid. -/
def masks (x3 a : FVec Ideal S100x5x56x56 .f32) : FVec Ideal S100x3136 .f32 :=
  Host.divf (broadcastInDim S100x3136 ![] bcast_S_S100x3136 (constant S_ .f32 0x3F800000#32))
    (addf (broadcastInDim S100x3136 ![] bcast_S_S100x3136 (constant S_ .f32 0x3F800000#32))
      (Host.exp (Host.negf (blend x3 a))))

/-- The batch indices as a column of floats. -/
def column (b : IVec S100 32) : FVec Ideal S100x1 .f32 :=
  broadcastInDim S100x1 ![0] bcast_S100_S100x1_0 (sitofp .f32 b : FVec Ideal S100 .f32)

/-- The result's five groups of columns side by side. -/
def joined (y94 : FVec Ideal S100x1 .f32) (y27 : FVec Ideal S100x4 .f32) (y42 y56 : FVec Ideal S100x1 .f32)
    (y92 : FVec Ideal S100x3136 .f32) : FVec Ideal S100x3143 .f32 :=
  concatenate S100x3143 1 [⟨S100x1, y94⟩, ⟨S100x4, y27⟩, ⟨S100x1, y42⟩, ⟨S100x1, y56⟩, ⟨S100x3136, y92⟩]
    concatenates_S100x1_S100x4_S100x1_S100x1_S100x3136_S100x3143_d1

/-- What the reference computes of its arguments. -/
def result (x0 : FVec Ideal S1x20000x85 .f32) (x1 : FVec Ideal S1x20000x980 .f32) (x3 : FVec Ideal S100x5x56x56 .f32) :
    FVec Ideal S100x3143 .f32 :=
  joined (column zeros) (selBoxes x0) (selClasses x0) (selTops x0) (masks x3 (resizedBy weights weights (selAttn x1)))

/-! ## The stretches -/

variable (V : Valuation τ sig (Elt Ideal))

set_option maxHeartbeats 1600000

/-- Before the resizing: the selected rows. -/
theorem read_zeros : upto line V 96 (Proc.devRef .tc main_v10) = zeros := by
  after_reads_simp <;> rfl
theorem read_boxes : upto line V 96 (Proc.devRef .tc main_v27) = selBoxes (V (Proc.devRef .tc main_arg0)) := by
  after_reads_simp <;> rfl
theorem read_classes : upto line V 96 (Proc.devRef .tc main_v42) = selClasses (V (Proc.devRef .tc main_arg0)) := by
  after_reads_simp <;> rfl
theorem read_tops : upto line V 96 (Proc.devRef .tc main_v56) = selTops (V (Proc.devRef .tc main_arg0)) := by
  after_reads_simp <;> rfl
theorem read_attn : upto line V 96 (Proc.devRef .tc main_v71) = selAttn (V (Proc.devRef .tc main_arg1)) := by
  after_reads_simp <;> rfl

/-- The weights on the rows, -/
theorem read_rows : after (stretch 96 163) V (Proc.devRef .tc main_call1_v42) = weights := by
  after_reads_simp
  simp only [StableHlo.TRef.ofBuf_toBuf]
  unfold weights scaled total hat place
  rfl
/-- and on the columns. -/
theorem read_cols : after (stretch 163 230) V (Proc.devRef .tc main_call1_v85) = weights := by
  after_reads_simp
  simp only [StableHlo.TRef.ofBuf_toBuf]
  unfold weights scaled total hat place
  rfl

/-- The resizing. -/
theorem read_resized : after (stretch 230 233) V (Proc.devRef .tc main_v72)
    = resizedBy (V (Proc.devRef .tc main_call1_v42)) (V (Proc.devRef .tc main_call1_v85)) (V (Proc.devRef .tc main_v71)) := by
  after_reads_simp <;> rfl

/-- The masks, -/
theorem read_masks : upto (stretch 233 262) V 28 (Proc.devRef .tc main_v92)
    = masks (V (Proc.devRef .tc main_arg3)) (V (Proc.devRef .tc main_v72)) := by
  after_reads_simp
  unfold masks blend soft expo peak
  rfl
/-- the column of batch indices, -/
theorem read_column : upto (stretch 233 262) V 28 (Proc.devRef .tc main_v94) = column (V (Proc.devRef .tc main_v10)) := by
  after_reads_simp <;> rfl
/-- and the rest. -/
theorem read_result : after (stretch 233 262) V (Proc.devRef .tc main_v95)
    = joined (column (V (Proc.devRef .tc main_v10))) (V (Proc.devRef .tc main_v27)) (V (Proc.devRef .tc main_v42))
        (V (Proc.devRef .tc main_v56)) (masks (V (Proc.devRef .tc main_arg3)) (V (Proc.devRef .tc main_v72))) := by
  have h27 : upto (stretch 233 262) V 28 (Proc.devRef .tc main_v27) = V (Proc.devRef .tc main_v27) := by after_reads_simp
  have h42 : upto (stretch 233 262) V 28 (Proc.devRef .tc main_v42) = V (Proc.devRef .tc main_v42) := by after_reads_simp
  have h56 : upto (stretch 233 262) V 28 (Proc.devRef .tc main_v56) = V (Proc.devRef .tc main_v56) := by after_reads_simp
  rw [← read_masks, ← read_column, ← h27, ← h42, ← h56]
  conv_lhs => simp only [StableHlo.readAfter, StableHlo.nary_result']
  generalize upto (stretch 233 262) V 28 = U
  rfl

/-! ## The run -/

/-- The line's result is `result` of the three arguments. -/
theorem line_result : after line V (Proc.devRef .tc main_v95)
    = result (V (Proc.devRef .tc main_arg0)) (V (Proc.devRef .tc main_arg1)) (V (Proc.devRef .tc main_arg3)) := by
  have keep : ∀ (r : Ref sig .tc), upto line V 233 (Proc.devRef .tc r)
      = after (stretch 230 233) (after (stretch 163 230) (after (stretch 96 163) (upto line V 96))) (Proc.devRef .tc r) :=
    fun r => by rw [line_cut (i := 230) (j := 233) (by omega), line_cut (i := 163) (j := 230) (by omega),
      line_cut (i := 96) (j := 163) (by omega)]
  have h3 : upto line V 233 (Proc.devRef .tc main_arg3) = V (Proc.devRef .tc main_arg3) := by after_reads_simp
  have h10 : upto line V 233 (Proc.devRef .tc main_v10) = zeros := by
    rw [keep]; generalize hW : upto line V 96 = W; after_reads_simp; rw [← hW]; exact read_zeros V
  have h27 : upto line V 233 (Proc.devRef .tc main_v27) = selBoxes (V (Proc.devRef .tc main_arg0)) := by
    rw [keep]; generalize hW : upto line V 96 = W; after_reads_simp; rw [← hW]; exact read_boxes V
  have h42 : upto line V 233 (Proc.devRef .tc main_v42) = selClasses (V (Proc.devRef .tc main_arg0)) := by
    rw [keep]; generalize hW : upto line V 96 = W; after_reads_simp; rw [← hW]; exact read_classes V
  have h56 : upto line V 233 (Proc.devRef .tc main_v56) = selTops (V (Proc.devRef .tc main_arg0)) := by
    rw [keep]; generalize hW : upto line V 96 = W; after_reads_simp; rw [← hW]; exact read_tops V
  have h72 : upto line V 233 (Proc.devRef .tc main_v72)
      = resizedBy weights weights (selAttn (V (Proc.devRef .tc main_arg1))) := by
    have e1 : ∀ W : Valuation τ sig (Elt Ideal), after (stretch 163 230) W (Proc.devRef .tc main_call1_v42)
        = W (Proc.devRef .tc main_call1_v42) := fun W => by after_reads_simp
    have e2 : ∀ W : Valuation τ sig (Elt Ideal), after (stretch 163 230) (after (stretch 96 163) W) (Proc.devRef .tc main_v71)
        = W (Proc.devRef .tc main_v71) := fun W => by after_reads_simp
    rw [keep, read_resized, read_cols, e1, e2, read_rows, read_attn]
  rw [line_all, line_cut (i := 233) (j := 262) (by omega), read_result, h3, h10, h27, h42, h56, h72]
  unfold result
  rfl

/-- The reference's run: the four arguments unchanged, the result `result` of them, every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v95) = result (m ((c.tc : Thread nD τ).loc main_arg0))
          (m ((c.tc : Thread nD τ).loc main_arg1)) (m ((c.tc : Thread nD τ).loc main_arg3)))
      ∧ r.2.sem = fun _ => 0 :=
  θ_run_mono (run_line m ρ) fun r h => ⟨fun c => by
    refine ⟨⟨?_, ?_, ?_, ?_⟩, ?_⟩
    · rw [h]; after_reads_simp <;> rfl
    · rw [h]; after_reads_simp <;> rfl
    · rw [h]; after_reads_simp <;> rfl
    · rw [h]; after_reads_simp <;> rfl
    · rw [h, line_result], sem_eq_zero_of_no_sems (by decide) r.2⟩

end Cert.ReferenceIdeal.Masks

end
-- ==== Proof.Maths.Constants.lean ====
/-
  The reals that the two programs' literals denote.
-/
module

public import Idealize.ShloMosaic.PureOps.Ideal
public import Idealize.ShloMosaic.Lib.Pointwise

@[expose] public section

noncomputable section

namespace Cert.Masks

open Idealize.ShloMosaic

theorem word_zero : Ideal.ofBits .f32 0x00000000#32 = ((0 : ℝ) : EReal) := by
  simp [Ideal.ofBits, Ideal.ieee]

theorem word_one : Ideal.ofBits .f32 0x3F800000#32 = ((1 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_quarter : Ideal.ofBits .f32 0x3E800000#32 = ((1 / 4 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul, -EReal.coe_neg]; norm_num

theorem word_last : Ideal.ofBits .f32 0x41580000#32 = ((27 / 2 : ℝ) : EReal) := by
  simp [Ideal.ofBits, Ideal.ieee, -EReal.coe_mul]; norm_num

theorem word_tiny : Ideal.ofBits .f32 0x38FA0000#32 = ((125 / 1048576 : ℝ) : EReal) := by
  simp [Ideal.ofBits, Ideal.ieee, -EReal.coe_mul]; norm_num

theorem word_top : Ideal.ofBits .f32 0x7F800000#32 = (⊤ : EReal) := by
  simp [Ideal.ofBits, Ideal.ieee]

theorem word_bottom : Ideal.ofBits .f32 0xFF800000#32 = (⊥ : EReal) := by
  simp [Ideal.ofBits, Ideal.ieee]

/-- The word of `n` eighths, for the eighths the weights take. -/
def eighths : ℕ → BitVec 32
  | 1 => 0x3E000000#32
  | 3 => 0x3EC00000#32
  | 5 => 0x3F200000#32
  | 7 => 0x3F600000#32
  | 8 => 0x3F800000#32
  | _ => 0x00000000#32

theorem word_eighths (n : ℕ) (h : n ∈ [0, 1, 3, 5, 7, 8]) :
    Ideal.ofBits .f32 (eighths n) = (((n : ℝ) / 8 : ℝ) : EReal) := by
  simp only [List.mem_cons, List.not_mem_nil, or_false] at h
  rcases h with rfl | rfl | rfl | rfl | rfl | rfl <;>
    simp [eighths, Ideal.ofBits, Ideal.ieee, -EReal.coe_mul] <;> norm_num

end Cert.Masks

end
-- ==== Proof.Maths.Reals.lean ====
/-
  The extended reals of the two programs' last steps: sums against real weights, and the softmax with and without the
  greatest logit taken off.
-/
module

public import proofs.«01_k».proof.Proof.Maths.Row

@[expose] public section

noncomputable section

namespace Cert.Masks

open Idealize.ShloMosaic

/-- The inclusion of the reals keeps sums, -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- and maxima. -/
theorem max_coe (a b : ℝ) : max (a : EReal) (b : EReal) = ((max a b : ℝ) : EReal) :=
  (EReal.coe_strictMono.monotone.map_max).symm

/-- A nonnegative real factor goes through a sum. -/
theorem sum_mul_coe {ι : Type} (s : Finset ι) (f : ι → EReal) {w : ℝ} (hw : 0 ≤ w) :
    (∑ i ∈ s, f i) * (w : EReal) = ∑ i ∈ s, f i * (w : EReal) := by
  classical
  induction s using Finset.induction_on with
  | empty => simp
  | insert i s hi ih =>
    rw [Finset.sum_insert hi, Finset.sum_insert hi, EReal.right_distrib_of_nonneg_of_ne_top (EReal.coe_nonneg.2 hw)
      (EReal.coe_ne_top w), ih]

/-- Resizing rows, then columns, is one sum over the places of the coarse map against the products of the weights. -/
theorem resize_eq (a : Fin 196 → EReal) (u v : Fin 14 → ℝ) (hv : ∀ y, 0 ≤ v y) :
    ∑ y : Fin 14, (∑ x : Fin 14, (u x : EReal) * a ⟨x.val * 14 + y.val, by omega⟩) * (v y : EReal)
      = ∑ j : Fin 196, a j * (((u ⟨j.val / 14, by omega⟩ : ℝ) : EReal) * ((v ⟨j.val % 14, by omega⟩ : ℝ) : EReal)) := by
  have hj : ∀ x y : Fin 14, finProdFinEquiv (x, y) = (⟨x.val * 14 + y.val, by omega⟩ : Fin (14 * 14)) := fun x y =>
    Fin.ext (by show y.val + 14 * x.val = x.val * 14 + y.val; omega)
  have e : ∀ g : Fin 196 → EReal, ∑ j, g j = ∑ y : Fin 14, ∑ x : Fin 14, g ⟨x.val * 14 + y.val, by omega⟩ := fun g => by
    have h := Equiv.sum_comp (finProdFinEquiv (m := 14) (n := 14)) g
    rw [Fintype.sum_prod_type, Finset.sum_comm] at h
    exact h.symm.trans (Finset.sum_congr rfl fun y _ => Finset.sum_congr rfl fun x _ => by rw [hj])
  rw [e]
  refine Finset.sum_congr rfl fun y _ => ?_
  rw [sum_mul_coe _ _ (hv y)]
  refine Finset.sum_congr rfl fun x _ => ?_
  have hx : (⟨(x.val * 14 + y.val) / 14, by omega⟩ : Fin 14) = x := Fin.ext (by show (x.val * 14 + y.val) / 14 = _; omega)
  have hy : (⟨(x.val * 14 + y.val) % 14, by omega⟩ : Fin 14) = y := Fin.ext (by show (x.val * 14 + y.val) % 14 = _; omega)
  show _ = a _ * (((u ⟨(x.val * 14 + y.val) / 14, _⟩ : ℝ) : EReal) * ((v ⟨(x.val * 14 + y.val) % 14, _⟩ : ℝ) : EReal))
  rw [hx, hy, mul_comm (u x : EReal), mul_assoc]

/-- The greatest of five reals is a real. -/
theorem greatest_real (r : Fin 5 → ℝ) :
    ∃ μ : ℝ, max (⊥ : EReal) (Finset.univ.fold max ⊥ fun b => ((r b : ℝ) : EReal)) = (μ : EReal) := by
  rw [max_eq_right bot_le]
  have h1 : (Finset.univ.fold max (⊥ : EReal) fun b => ((r b : ℝ) : EReal)) < ⊤ :=
    (Finset.fold_max_lt _).2 ⟨bot_lt_top, fun b _ => EReal.coe_lt_top _⟩
  have h2 : (⊥ : EReal) < Finset.univ.fold max (⊥ : EReal) fun b => ((r b : ℝ) : EReal) :=
    (Finset.lt_fold_max _).2 (.inr ⟨0, Finset.mem_univ _, EReal.bot_lt_coe _⟩)
  exact ⟨_, (EReal.coe_toReal h1.ne h2.ne').symm⟩

/-- The blend by the softmax is the blend by the exponentials over their sum, the greatest logit dropping out. -/
theorem softmax_eq (r : Fin 5 → ℝ) (p : Fin 5 → EReal) {M : EReal}
    (hM : M = max (⊥ : EReal) (Finset.univ.fold max ⊥ fun b => ((r b : ℝ) : EReal))) :
    ∑ b, p b * Ideal.div (Ideal.exp ((r b : EReal) - M)) (∑ c, Ideal.exp ((r c : EReal) - M))
      = Ideal.div (∑ b, p b * Ideal.exp (r b : EReal)) (∑ b, Ideal.exp (r b : EReal)) := by
  obtain ⟨μ, hμ⟩ := greatest_real r
  rw [hM, hμ]
  have he : ∀ b, Ideal.exp ((r b : EReal) - (μ : EReal)) = ((Real.exp (r b) * Real.exp (-μ) : ℝ) : EReal) := fun b => by
    rw [← EReal.coe_sub, ← Real.exp_add, ← sub_eq_add_neg]; rfl
  have hE : ∀ b, Ideal.exp (r b : EReal) = ((Real.exp (r b) : ℝ) : EReal) := fun b => rfl
  have hS : 0 < ∑ b, Real.exp (r b) := Finset.sum_pos (fun b _ => Real.exp_pos _) ⟨0, Finset.mem_univ _⟩
  have hm : 0 < Real.exp (-μ) := Real.exp_pos _
  simp only [he, hE, sum_coe, ← Finset.sum_mul]
  rw [Ideal.div_coe hS.ne', sum_mul_coe _ _ (by positivity)]
  refine Finset.sum_congr rfl fun b _ => ?_
  rw [Ideal.div_coe (by positivity), mul_assoc, ← EReal.coe_mul, ← EReal.coe_mul]
  congr 2
  field_simp

end Cert.Masks

end
-- ==== Proof.Reference.Weights.lean ====
/-
  The weights of the resizing, which the reference computes: triangles of width one around each coarse place, over
  their sum. In eighths they are whole numbers.
-/
module

public import proofs.«01_k».proof.Proof.Reference.Values
public import proofs.«01_k».proof.Proof.Maths.Constants
public import proofs.«01_k».proof.Proof.Maths.Reals

@[expose] public section

set_option maxRecDepth 65536

noncomputable section

namespace Cert.Masks

/-- The triangle of coarse place `i` at fine place `j`, in eighths. -/
def rise (i j : ℕ) : ℕ := 8 - (2 * j - 3 - 8 * i : ℤ).natAbs

/-- The triangles' sum at fine place `j`, in eighths. -/
def rises (j : ℕ) : ℕ := ∑ i : Fin 14, rise i.val j

/-- The weight, in eighths. -/
def weight (i j : ℕ) : ℕ := 8 * rise i j / rises j

/-- Every fine place is near a coarse one, -/
theorem rises_pos (j : Fin 56) : 5 ≤ rises j.val := by
  revert j; decide +kernel

/-- the weights are whole eighths, -/
theorem weight_mul (i : Fin 14) (j : Fin 56) : 8 * rise i.val j.val = weight i.val j.val * rises j.val := by
  revert i j; decide +kernel

/-- and take six values. -/
theorem weight_mem (i : Fin 14) (j : Fin 56) : weight i.val j.val ∈ [0, 1, 3, 5, 7, 8] := by
  revert i j; decide +kernel

end Cert.Masks

namespace Cert.ReferenceIdeal.Masks

open Cert.ReferenceIdeal Cert.ReferenceIdeal.Facts₀
open Idealize.ShloMosaic Idealize.ShloMosaic.TcCoe
open Cert.Masks

/-- A small number, read signed as a float, is itself. -/
theorem sitofp_small (j : Fin 56) : FloatOps.sitofp (F := Ideal) .f32 (BitVec.ofNat 32 j.val) = ((j.val : ℝ) : EReal) := by
  have e : (BitVec.ofNat 32 j.val).toInt = j.val := by revert j; decide +kernel
  show (((BitVec.ofNat 32 j.val).toInt : ℝ) : EReal) = _
  rw [e]; rfl

/-- The absolute value of a real. -/
theorem absf_coe (a : ℝ) : FloatOps.absf (F := Ideal) (φ := .f32) ((a : ℝ) : EReal) = ((|a| : ℝ) : EReal) := by
  show max (a : EReal) (-(a : EReal)) = _
  rw [← EReal.coe_neg, max_coe]; rfl

theorem place_at (j : Fin 56) : place (ix1 j) = (((2 * j.val - 3) / 8 : ℝ) : EReal) := by
  pointwise [place]
  rw [sitofp_small, word_half, word_quarter, ← EReal.coe_add, ← EReal.coe_mul, ← EReal.coe_sub]
  congr 1; ring

theorem hat_at (i : Fin 14) (j : Fin 56) : hat (ix2 i j) = ((rise i.val j.val / 8 : ℝ) : EReal) := by
  pointwise [hat]
  have hi := sitofp_small ⟨i.val, by omega⟩
  have hm : max (((1 / 4 : ℝ)) : EReal) 1 = ((1 : ℝ) : EReal) := by
    rw [← EReal.coe_one, max_coe]; norm_num
  rw [place_at, hi, word_quarter, hm, ← EReal.coe_sub, absf_coe, Ideal.div_coe one_ne_zero, ← EReal.coe_mul, absf_coe,
    ← EReal.coe_one, ← EReal.coe_sub, ← EReal.coe_zero, max_coe]
  congr 1
  have hz : ((2 * j.val - 3) / 8 - i.val : ℝ) = ((2 * j.val - 3 - 8 * i.val : ℤ) : ℝ) / 8 := by push_cast; ring
  have hn : |((2 * j.val - 3 - 8 * i.val : ℤ) : ℝ)| = ((2 * j.val - 3 - 8 * i.val : ℤ).natAbs : ℝ) := by
    rw [Nat.cast_natAbs, Int.cast_abs]
  show max 0 (1 - |(|((2 * j.val - 3) / 8 - i.val : ℝ)| * (1 / 1))|) = _
  rw [one_div_one, mul_one, abs_abs, hz, abs_div, hn]
  unfold rise
  generalize (2 * j.val - 3 - 8 * i.val : ℤ).natAbs = n
  rcases le_total n 8 with h | h
  · have : (n : ℝ) ≤ 8 := by exact_mod_cast h
    rw [Nat.cast_sub h, max_eq_right]
    · norm_num; ring
    · norm_num; linarith
  · have : (8 : ℝ) ≤ n := by exact_mod_cast h
    rw [Nat.sub_eq_zero_of_le h, max_eq_left]
    · norm_num
    · norm_num; linarith

theorem total_at (i : Fin 1) (j : Fin 56) : total (ix2 i j) = ((rises j.val / 8 : ℝ) : EReal) := by
  pointwise [total]
  rw [Finset.sum_congr rfl fun x _ => hat_at x j, sum_coe, ← Finset.sum_div]
  unfold rises
  push_cast
  rfl

theorem scaled_at (i : Fin 14) (j : Fin 56) : scaled (ix2 i j) = ((weight i.val j.val / 8 : ℝ) : EReal) := by
  pointwise [scaled]
  have h5 : (5 : ℝ) ≤ rises j.val := by exact_mod_cast rises_pos j
  have hw : (8 * rise i.val j.val : ℝ) = weight i.val j.val * rises j.val := by exact_mod_cast weight_mul i j
  have hne : (rises j.val / 8 : ℝ) ≠ 0 := by positivity
  rw [total_at, word_tiny, absf_coe, abs_of_nonneg (by positivity), if_pos (EReal.coe_lt_coe_iff.2 (by norm_num; linarith)),
    if_pos (by exact_mod_cast hne), hat_at, Ideal.div_coe hne, ← EReal.coe_mul]
  congr 1
  field_simp
  linarith

/-- The reference's weights. -/
theorem weights_at (i : Fin 14) (j : Fin 56) : weights (ix2 i j) = ((weight i.val j.val / 8 : ℝ) : EReal) := by
  pointwise [weights]
  have hj : (j.val : ℝ) ≤ 55 := by exact_mod_cast Nat.le_of_lt_succ j.isLt
  have h0 : (0 : ℝ) ≤ j.val := Nat.cast_nonneg _
  rw [place_at, word_neg_half, word_last, decide_eq_true (EReal.coe_le_coe_iff.2 (by linarith)),
    decide_eq_true (EReal.coe_le_coe_iff.2 (by linarith))]
  exact scaled_at i j

end Cert.ReferenceIdeal.Masks

end
-- ==== Proof.Maths.First.lean ====
/-
  The first of the greatest entries as a left fold over (value, place) pairs: of two pairs the step keeps the one of
  the greater value, the one of the smaller place among equal values.
-/
module

public import proofs.«01_k».proof.Proof.Maths.Row

@[expose] public section

noncomputable section

namespace Cert.Masks

open Idealize.ShloMosaic

/-- One pair goes before another: a greater value, or an equal value and a place not later. -/
def Before (a b : EReal × BitVec 32) : Prop := b.1 < a.1 ∨ (b.1 = a.1 ∧ a.2.toInt ≤ b.2.toInt)

theorem Before.refl (a : EReal × BitVec 32) : Before a a := .inr ⟨rfl, le_rfl⟩

theorem Before.trans {a b c : EReal × BitVec 32} (h : Before a b) (k : Before b c) : Before a c := by
  rcases h with h | ⟨e, h⟩ <;> rcases k with k | ⟨e', k⟩
  · exact .inl (k.trans h)
  · exact .inl (e' ▸ h)
  · exact .inl (e ▸ k)
  · exact .inr ⟨e'.trans e, h.trans k⟩

/-- The fold of a step that keeps of two pairs one that goes before the other ends at a pair of the list, or the
    starting one, that goes before all. -/
theorem fold_before (f : EReal × BitVec 32 → EReal × BitVec 32 → EReal × BitVec 32)
    (hf : ∀ a b, (f a b = a ∧ Before a b) ∨ (f a b = b ∧ Before b a)) (l : List (EReal × BitVec 32))
    (a : EReal × BitVec 32) :
    l.foldl f a ∈ a :: l ∧ ∀ p ∈ a :: l, Before (l.foldl f a) p := by
  induction l generalizing a with
  | nil => exact ⟨List.mem_singleton.2 rfl, fun p hp => by rw [List.mem_singleton.1 hp]; exact .refl a⟩
  | cons b l ih =>
    obtain ⟨hm, hb⟩ := ih (f a b)
    have hs := hb (f a b) List.mem_cons_self
    refine ⟨?_, fun p hp => ?_⟩
    · rcases List.mem_cons.1 hm with e | e
      · rw [List.foldl_cons, e]
        rcases hf a b with ⟨h, _⟩ | ⟨h, _⟩ <;> rw [h] <;> simp
      · rw [List.foldl_cons]; exact List.mem_cons_of_mem _ (List.mem_cons_of_mem _ e)
    · rw [List.foldl_cons]
      rcases List.mem_cons.1 hp with rfl | hp
      · exact hs.trans (by rcases hf p b with ⟨h, k⟩ | ⟨h, k⟩ <;> rw [h]; exacts [.refl _, k])
      rcases List.mem_cons.1 hp with rfl | hp
      · exact hs.trans (by rcases hf a p with ⟨h, k⟩ | ⟨h, k⟩ <;> rw [h]; exacts [k, .refl _])
      · exact hb p (List.mem_cons_of_mem _ hp)

/-- A class's number, read signed, is itself. -/
theorem toInt_class (c : Fin 80) : (BitVec.ofNat 32 c.val).toInt = c.val := by
  revert c; decide +kernel

/-- A class of a greatest score, and the first such, is `first`. -/
theorem first_eq (x : Fin 80 → EReal) (c : Fin 80) (hmax : ∀ d, x d ≤ x c) (hmin : ∀ d, x d = x c → c ≤ d) :
    first x = BitVec.ofNat 32 c.val := by
  classical
  unfold first
  have e : ((Finset.univ.filter fun c : Fin 80 => ∀ d, x d ≤ x c).image Fin.val).min = (c.val : WithTop ℕ) := by
    apply le_antisymm
    · exact Finset.min_le (Finset.mem_image.2 ⟨c, Finset.mem_filter.2 ⟨Finset.mem_univ _, hmax⟩, rfl⟩)
    · refine Finset.le_min fun n hn => ?_
      obtain ⟨d, hd, rfl⟩ := Finset.mem_image.1 hn
      have := hmin d (le_antisymm (hmax d) ((Finset.mem_filter.1 hd).2 c))
      exact WithTop.coe_le_coe.2 this
  have e' : ((Finset.univ.filter fun c : Fin 80 => ∀ d, x d ≤ x c).image Fin.val).min.getD 0 = c.val := by
    rw [e]; rfl
  convert congrArg (BitVec.ofNat 32) e' using 5

/-- The fold from the pair (−∞, 0) over a list of exactly the 80 pairs ends at the place `first`. -/
theorem fold_first (x : Fin 80 → EReal) (f : EReal × BitVec 32 → EReal × BitVec 32 → EReal × BitVec 32)
    (hf : ∀ a b, (f a b = a ∧ Before a b) ∨ (f a b = b ∧ Before b a)) (l : List (EReal × BitVec 32))
    (hl : ∀ p, p ∈ l ↔ ∃ c : Fin 80, p = (x c, BitVec.ofNat 32 c.val)) :
    (l.foldl f (⊥, 0#32)).2 = first x := by
  obtain ⟨hm, hb⟩ := fold_before f hf l (⊥, 0#32)
  generalize l.foldl f (⊥, 0#32) = r at hm hb
  have hall : ∀ d : Fin 80, Before r (x d, BitVec.ofNat 32 d.val) := fun d =>
    hb _ (List.mem_cons_of_mem _ ((hl _).2 ⟨d, rfl⟩))
  have hc : ∃ c : Fin 80, r = (x c, BitVec.ofNat 32 c.val) := by
    rcases List.mem_cons.1 hm with e | e
    · refine ⟨0, ?_⟩
      rcases hall 0 with h | ⟨h, _⟩
      · rw [e] at h; exact absurd h not_lt_bot
      · rw [e] at h ⊢; exact Prod.ext h.symm rfl
    · exact (hl _).1 e
  obtain ⟨c, rfl⟩ := hc
  refine (first_eq x c (fun d => ?_) fun d hd => ?_).symm
  · rcases hall d with h | ⟨h, _⟩
    exacts [le_of_lt h, le_of_eq h]
  · rcases hall d with h | ⟨_, h⟩
    · exact absurd hd (ne_of_lt h)
    · rw [toInt_class, toInt_class] at h
      exact Fin.le_def.2 (by exact_mod_cast h)

end Cert.Masks

end
-- ==== Proof.Maths.Take.lean ====
/-
  A gather of whole rows out of a `1 × n × w` array, at `m` pairs of indices.
-/
module

public import Idealize.ShloMosaic.PureOps.Ideal
public import Idealize.ShloMosaic.Lib.Pointwise

@[expose] public section

noncomputable section

namespace Cert.Masks

open Idealize.ShloMosaic

/-- The dimension numbers of such a gather. -/
abbrev rowDims (n m w : ℕ)
    (wf : GatherDims.WF ⟨3, ![1, n, w]⟩ ⟨2, ![m, 2]⟩ ⟨2, ![m, w]⟩ [1] [0, 1] [] [0, 1] [] 1 ![1, 1, w]) :
    GatherDims ⟨3, ![1, n, w]⟩ ⟨2, ![m, 2]⟩ ⟨2, ![m, w]⟩ where
  offsetDims := [1]
  collapsedSliceDims := [0, 1]
  operandBatchingDims := []
  startIndicesBatchingDims := []
  startIndexMap := [0, 1]
  indexVectorDim := 1
  sliceSizes := ![1, 1, w]
  wf := wf

/-- Where the second index of the pair, read signed, is `j < n`, the gather reads row `j`. -/
theorem gather_row {α : Type} {n m w : ℕ}
    (wf : GatherDims.WF ⟨3, ![1, n, w]⟩ ⟨2, ![m, 2]⟩ ⟨2, ![m, w]⟩ [1] [0, 1] [] [0, 1] [] 1 ![1, 1, w])
    (x : (⟨3, ![1, n, w]⟩ : Shape).Idx → α) (idx : IVec ⟨2, ![m, 2]⟩ 32) (i : Fin m) (k : Fin w) (j : Fin n)
    (hj : (idx (ix2 i 1)).toInt = j.val) :
    Host.gather (rowDims n m w wf) x idx (ix2 i k) = x (ix3 0 j k) := by
  show x _ = x _
  refine congrArg x (funext fun a => Fin.ext ?_)
  show (rowDims n m w wf).start (ix2 i k) idx a + (rowDims n m w wf).batchCoord (ix2 i k) a
    + (rowDims n m w wf).offCoord (ix2 i k) a = _
  rw [GatherDims.batchCoord_eq_zero _ _ _ (by simp)]
  match a with
  | ⟨0, _⟩ =>
    have h := (rowDims n m w wf).start_le (ix2 i k) idx 0
    rw [GatherDims.offCoord_eq_zero _ _ _ (by rw [GatherDims.mem_sKept]; simp)]
    exact Nat.le_zero.1 h
  | ⟨1, _⟩ =>
    rw [GatherDims.offCoord_eq_zero _ _ _ (by rw [GatherDims.mem_sKept]; simp)]
    show min (idx ((rowDims n m w wf).siIdx (ix2 i k) ⟨1, _⟩)).toInt.toNat (n - 1) = j.val
    have e : (rowDims n m w wf).siIdx (ix2 i k) ⟨1, Nat.one_lt_two⟩ = ix2 i 1 := by
      funext b
      match b with
      | ⟨0, _⟩ => rfl
      | ⟨1, _⟩ => rfl
    rw [e, hj]
    omega
  | ⟨2, _⟩ =>
    show 0 + 0 + k.val = k.val
    omega

end Cert.Masks

end
-- ==== Proof.Reference.Rows.lean ====
/-
  The reference's result at an element, over its arguments: row `i` of it is the row of detection `100 + i`, where the
  attention logits are real.
-/
module

public import proofs.«01_k».proof.Proof.Reference.Weights
public import proofs.«01_k».proof.Proof.Maths.First
public import proofs.«01_k».proof.Proof.Maths.Take

@[expose] public section

set_option maxRecDepth 65536

noncomputable section

namespace Cert.ReferenceIdeal.Masks

open Cert.ReferenceIdeal Cert.ReferenceIdeal.Facts₀
open Idealize.ShloMosaic Idealize.ShloMosaic.TcCoe
open Cert.Masks

/-! ## Every row -/

/-- The class scores of a row. -/
theorem scores_at (x0 : FVec Ideal S1x20000x85 .f32) (i : Fin 20000) (c : Fin 80) :
    scores x0 (ix3 0 i c) = score (fun a => x0 (ix3 0 i a)) c := by
  pointwise [scores]
  rfl

/-- An entry belongs to a row's scores when its row is that row. -/
theorem drop_row (y : S1x20000x80.Idx) (i : Fin 20000) :
    reducesTo_S1x20000x80_S1x20000_d2.drop y = ix2 0 i ↔ y 1 = i := by
  constructor
  · intro h; exact congrFun h 1
  · intro h; funext b
    match b with
    | ⟨0, _⟩ => exact Subsingleton.elim (α := Fin 1) _ _
    | ⟨1, _⟩ => exact h

/-- The step of the arg-max keeps of two pairs one that goes before the other. -/
theorem keeps (a b : EReal × BitVec 32) : (reducer_argmax_f32_i32 (F := Ideal) a b = a ∧ Before a b)
    ∨ (reducer_argmax_f32_i32 (F := Ideal) a b = b ∧ Before b a) := by
  obtain ⟨a1, a2⟩ := a
  obtain ⟨b1, b2⟩ := b
  unfold reducer_argmax_f32_i32 Before
  simp only [Ideal.cmpf_def, Ideal.cmp, IntOp.cmpi, IntOp.ori, IntOp.andi, Scalar.select]
  rcases lt_trichotomy a1 b1 with h | h | h
  · right; simp [h, h.not_gt, h.ne]
  · subst h
    by_cases h2 : a2.slt b2
    · left
      simp [h2, BitVec.slt_iff_toInt_lt.1 h2 |>.le]
    · right
      simp [h2]
      simpa [BitVec.slt_iff_toInt_lt] using h2
  · left; simp [h, h.ne']

/-- A number spread along a new axis. -/
theorem spread_at {α : Type} (g : S1x20000.Idx → α) (i : Fin 20000) (k : Fin 1) :
    broadcastInDim S1x20000x1 ![0, 1] bcast_S1x20000_S1x20000x1_0_1 g (ix3 0 i k) = g (ix2 0 i) := by
  pointwise

/-- The class of a row. -/
theorem classes_at (x0 : FVec Ideal S1x20000x85 .f32) (i : Fin 20000) (k : Fin 1) :
    classes x0 (ix3 0 i k) = first (score fun a => x0 (ix3 0 i a)) := by
  unfold classes
  rw [spread_at, Ideal.argReduce_eq_reduce2, Host.reduce2_eq_foldl_fiber]
  have e0 : (constant (F := Ideal) S_ .f32 0xFF800000#32 (Shape.Idx.first h_S_), constantI S_ 32 0#32 (Shape.Idx.first h_S_))
      = ((⊥ : EReal), 0#32) := by
    rw [← word_bottom]; rfl
  rw [e0]
  refine fold_first _ _ keeps _ fun p => ?_
  unfold Host.argReduceFiber
  simp only [List.mem_map, List.mem_filter, List.mem_finRange, true_and, decide_eq_true_eq, drop_row]
  constructor
  · rintro ⟨n, hn, rfl⟩
    generalize S1x20000x80.rowMajor.symm n = y at hn
    subst hn
    have e : y = ix3 0 (y 1) (y 2) := by
      funext a
      match a with
      | ⟨0, _⟩ => exact Subsingleton.elim (α := Fin 1) _ _
      | ⟨1, _⟩ => rfl
      | ⟨2, _⟩ => rfl
    exact ⟨y 2, Prod.ext ((congrArg (scores x0) e).trans (scores_at x0 _ _)) rfl⟩
  · rintro ⟨c, rfl⟩
    refine ⟨S1x20000x80.rowMajor (ix3 0 i c), ?_, ?_⟩
    · rw [Equiv.symm_apply_apply]; rfl
    · rw [Equiv.symm_apply_apply]
      exact Prod.ext (scores_at x0 i c) rfl
/-- The box of a row. -/
theorem boxes_at (x0 : FVec Ideal S1x20000x85 .f32) (i : Fin 20000) (k : Fin 4) :
    boxes x0 (ix3 0 i k) = corner (fun a => x0 (ix3 0 i a)) k := by
  pointwise [boxes]
  rw [Fin.sum_univ_four]
  have hn : Ideal.ofBits .f32 0xBF000000#32 = -Ideal.ofBits .f32 0x3F000000#32 := by
    rw [word_neg_half, word_half, EReal.coe_neg]
  have h1 : Ideal.ofBits .f32 0x3F800000#32 = 1 := word_one.trans EReal.coe_one
  have h0 : Ideal.ofBits .f32 0x00000000#32 = 0 := word_zero.trans EReal.coe_zero
  unfold corner
  generalize hh : Ideal.ofBits .f32 0x3F000000#32 = half at hn
  match k with
  | ⟨0, _⟩ =>
    show x0 (ix3 0 i 0) * Ideal.ofBits .f32 0x3F800000#32 + x0 (ix3 0 i 1) * Ideal.ofBits .f32 0x00000000#32
      + x0 (ix3 0 i 2) * Ideal.ofBits .f32 0xBF000000#32 + x0 (ix3 0 i 3) * Ideal.ofBits .f32 0x00000000#32
      = x0 (ix3 0 i 0) - half * x0 (ix3 0 i 2)
    rw [hn, h1, h0, mul_one, mul_zero, mul_zero, add_zero, add_zero, mul_neg, mul_comm, sub_eq_add_neg]
  | ⟨1, _⟩ =>
    show x0 (ix3 0 i 0) * Ideal.ofBits .f32 0x00000000#32 + x0 (ix3 0 i 1) * Ideal.ofBits .f32 0x3F800000#32
      + x0 (ix3 0 i 2) * Ideal.ofBits .f32 0x00000000#32 + x0 (ix3 0 i 3) * Ideal.ofBits .f32 0xBF000000#32
      = x0 (ix3 0 i 1) - half * x0 (ix3 0 i 3)
    rw [hn, h1, h0, mul_one, mul_zero, mul_zero, add_zero, zero_add, mul_neg, mul_comm, sub_eq_add_neg]
  | ⟨2, _⟩ =>
    show x0 (ix3 0 i 0) * Ideal.ofBits .f32 0x3F800000#32 + x0 (ix3 0 i 1) * Ideal.ofBits .f32 0x00000000#32
      + x0 (ix3 0 i 2) * Ideal.ofBits .f32 0x3F000000#32 + x0 (ix3 0 i 3) * Ideal.ofBits .f32 0x00000000#32
      = x0 (ix3 0 i 0) + half * x0 (ix3 0 i 2)
    rw [hh, h1, h0, mul_one, mul_zero, mul_zero, add_zero, add_zero, mul_comm half]
  | ⟨3, _⟩ =>
    show x0 (ix3 0 i 0) * Ideal.ofBits .f32 0x00000000#32 + x0 (ix3 0 i 1) * Ideal.ofBits .f32 0x3F800000#32
      + x0 (ix3 0 i 2) * Ideal.ofBits .f32 0x00000000#32 + x0 (ix3 0 i 3) * Ideal.ofBits .f32 0x3F000000#32
      = x0 (ix3 0 i 1) + half * x0 (ix3 0 i 3)
    rw [hh, h1, h0, mul_one, mul_zero, mul_zero, add_zero, zero_add, mul_comm half]

/-- The top score of a row. -/
theorem tops_at (x0 : FVec Ideal S1x20000x85 .f32) (i : Fin 20000) (k : Fin 1) :
    tops x0 (ix3 0 i k) = top (score fun a => x0 (ix3 0 i a)) := by
  pointwise [tops, scores]
  rfl

/-! ## The selected rows -/

/-- The row index of a pair, read signed. -/
theorem pairs_row (i : Fin 100) :
    (pairs (ix2 i 1)).toInt = (⟨100 + i.val, by omega⟩ : Fin 20000).val := by
  pointwise [pairs, wrapped, zeros, picks]
  revert i; decide +kernel

theorem selBoxes_at (x0 : FVec Ideal S1x20000x85 .f32) (i : Fin 100) (k : Fin 4) :
    selBoxes x0 (ix2 i k) = corner (fun a => x0 (ix3 0 ⟨100 + i.val, by omega⟩ a)) k :=
  (gather_row gather_S1x20000x4_S100x2_S100x4_1_01_n_n_01_1_114_wf (boxes x0) pairs i k _ (pairs_row i)).trans
    (boxes_at x0 _ k)

theorem selClasses_at (x0 : FVec Ideal S1x20000x85 .f32) (i : Fin 100) (k : Fin 1) :
    selClasses x0 (ix2 i k)
      = FloatOps.sitofp (F := Ideal) .f32 (first (score fun a => x0 (ix3 0 ⟨100 + i.val, by omega⟩ a))) :=
  congrArg (FloatOps.sitofp (F := Ideal) .f32)
    ((gather_row gather_S1x20000x1_S100x2_S100x1_1_01_n_n_01_1_111_wf (classes x0) pairs i k _ (pairs_row i)).trans
      (classes_at x0 _ k))

theorem selTops_at (x0 : FVec Ideal S1x20000x85 .f32) (i : Fin 100) (k : Fin 1) :
    selTops x0 (ix2 i k) = top (score fun a => x0 (ix3 0 ⟨100 + i.val, by omega⟩ a)) :=
  (gather_row gather_S1x20000x1_S100x2_S100x1_1_01_n_n_01_1_111_wf (tops x0) pairs i k _ (pairs_row i)).trans
    (tops_at x0 _ k)

theorem selAttn_at (x1 : FVec Ideal S1x20000x980 .f32) (i : Fin 100) (b : Fin 5) (x y : Fin 14) :
    selAttn x1 (ix4 i b x y) = x1 (ix3 0 ⟨100 + i.val, by omega⟩ ⟨b.val * 196 + (x.val * 14 + y.val), by omega⟩) := by
  have e : selAttn x1 (ix4 i b x y)
      = Host.gather gather_S1x20000x980_S100x2_S100x980_1_01_n_n_01_1_11980 x1 pairs
          (ix2 i ⟨b.val * 196 + (x.val * 14 + y.val), by omega⟩) := by
    pointwise [selAttn]
    simp only [Nat.add_assoc]
  rw [e]
  exact gather_row gather_S1x20000x980_S100x2_S100x980_1_01_n_n_01_1_11980_wf x1 pairs i _ _ (pairs_row i)

end Cert.ReferenceIdeal.Masks

end
-- ==== Proof.Reference.Elements.lean ====
/-
  The reference's masks at an element, and its result: row `i` is the row of detection `100 + i`, where that
  detection's attention logits are real.
-/
module

public import proofs.«01_k».proof.Proof.Reference.Rows

@[expose] public section

set_option maxRecDepth 65536

noncomputable section

namespace Cert.ReferenceIdeal.Masks

open Cert.ReferenceIdeal Cert.ReferenceIdeal.Facts₀
open Idealize.ShloMosaic Idealize.ShloMosaic.TcCoe
open Cert.Masks

/-! ## The resizing -/

/-- The weights on both axes, from the coarse map's places in a line to the fine map's. -/
def planar (j : Fin 196) (k : Fin 3136) : EReal :=
  ((weight (j.val / 14) (k.val / 56) / 8 : ℝ) : EReal) * ((weight (j.val % 14) (k.val % 56) / 8 : ℝ) : EReal)

/-- The resized maps: a sum over the coarse map's places. -/
theorem resized_at (a : FVec Ideal S100x5x14x14 .f32) (i : Fin 100) (b : Fin 5) (k : Fin 3136) (l : Fin 196 → EReal)
    (hl : ∀ x y : Fin 14, a (ix4 i b x y) = l ⟨x.val * 14 + y.val, by omega⟩) :
    resizedBy weights weights a (ix4 i b ⟨k.val / 56, by omega⟩ ⟨k.val % 56, by omega⟩) = ∑ j, l j * planar j k := by
  pointwise [resizedBy]
  simp only [weights_at, hl]
  exact resize_eq l (fun x => weight x.val (k.val / 56) / 8) (fun y => weight y.val (k.val % 56) / 8)
    fun y => by positivity

/-- A sum of real logits against the weights is real. -/
theorem resized_real (l : Fin 196 → ℝ) (k : Fin 3136) :
    ∃ r : ℝ, ∑ j, ((l j : ℝ) : EReal) * planar j k = (r : EReal) :=
  ⟨∑ j, l j * (weight (j.val / 14) (k.val / 56) / 8 * (weight (j.val % 14) (k.val % 56) / 8)), by
    rw [← sum_coe]
    refine Finset.sum_congr rfl fun j _ => ?_
    unfold planar
    rw [EReal.coe_mul, EReal.coe_mul]⟩

/-! ## The softmax and the blend -/

/-- A map spread over the five. -/
theorem spread_map {α : Type} (g : S100x56x56.Idx → α) (i : Fin 100) (b : Fin 5) (p q : Fin 56) :
    broadcastInDim S100x5x56x56 ![0, 1, 2, 3] bcast_S100x1x56x56_S100x5x56x56_0_1_2_3
      (broadcastInDim S100x1x56x56 ![0, 2, 3] bcast_S100x56x56_S100x1x56x56_0_2_3 g) (ix4 i b p q) = g (ix3 i p q) := by
  pointwise

/-- The greater of two maps at a place, -/
theorem greater_at (f g : FVec Ideal S100x56x56 .f32) (y : S100x56x56.Idx) : maximumf f g y = max (f y) (g y) := rfl

/-- and the greatest of five. -/
theorem greatest_at (a : FVec Ideal S100x5x56x56 .f32) (i : Fin 100) (p q : Fin 56) :
    Host.reduce FloatOps.maximumf a (constant S_ .f32 0xFF800000#32) reducesTo_S100x5x56x56_S100x56x56_d1 h_S_ (ix3 i p q)
      = Finset.univ.fold max (Ideal.ofBits .f32 0xFF800000#32) fun b : Fin 5 => a (ix4 i b p q) := by
  pointwise

theorem peak_at (a : FVec Ideal S100x5x56x56 .f32) (i : Fin 100) (b : Fin 5) (p q : Fin 56) :
    peak a (ix4 i b p q) = max (⊥ : EReal) (Finset.univ.fold max ⊥ fun b : Fin 5 => a (ix4 i b p q)) := by
  unfold peak
  rw [spread_map, greater_at, greatest_at, word_bottom]
  exact congrArg (max · _) word_bottom

/-- The masks: where the five resized logits are real, the sigmoid of the blend. -/
theorem masks_at (x3 : FVec Ideal S100x5x56x56 .f32) (a : FVec Ideal S100x5x56x56 .f32) (i : Fin 100) (k : Fin 3136)
    (r : Fin 5 → ℝ)
    (hr : ∀ b, a (ix4 i b ⟨k.val / 56, by omega⟩ ⟨k.val % 56, by omega⟩) = ((r b : ℝ) : EReal)) :
    masks x3 a (ix2 i k)
      = Ideal.logistic (Ideal.div
          (∑ b : Fin 5, x3 (ix4 i b ⟨k.val / 56, by omega⟩ ⟨k.val % 56, by omega⟩) * Ideal.exp ((r b : ℝ) : EReal))
          (∑ b : Fin 5, Ideal.exp ((r b : ℝ) : EReal))) := by
  have hs : ∀ b : Fin 5, soft a (ix4 i b ⟨k.val / 56, by omega⟩ ⟨k.val % 56, by omega⟩)
      = Ideal.div (Ideal.exp (((r b : ℝ) : EReal) - max (⊥ : EReal) (Finset.univ.fold max ⊥ fun b => ((r b : ℝ) : EReal))))
          (∑ c, Ideal.exp (((r c : ℝ) : EReal)
            - max (⊥ : EReal) (Finset.univ.fold max ⊥ fun b => ((r b : ℝ) : EReal)))) := fun b => by
    pointwise [soft, expo]
    simp only [peak_at, hr]
  pointwise [masks, blend]
  simp only [hs]
  rw [softmax_eq r _ rfl]
  rfl

/-! ## The result -/

/-- The batch index's column. -/
theorem column_at (i : Fin 100) (k : Fin 1) : column zeros (ix2 i k) = 0 := by
  pointwise [column, zeros]
  exact (sitofp_small 0).trans (by norm_num)

/-- The reference's row `i` is the row of detection `100 + i`. -/
theorem result_at (x0 : FVec Ideal S1x20000x85 .f32) (x1 : FVec Ideal S1x20000x980 .f32)
    (x3 : FVec Ideal S100x5x56x56 .f32) (i : Fin 100)
    (hx : ∀ n : Fin 980, ∃ r : ℝ, x1 (ix3 0 ⟨100 + i.val, by omega⟩ n) = (r : EReal)) (k : Fin 3143) :
    result x0 x1 x3 (ix2 i k)
      = row (fun a => x0 (ix3 0 ⟨100 + i.val, by omega⟩ a))
          (fun b j => x1 (ix3 0 ⟨100 + i.val, by omega⟩ ⟨b.val * 196 + j.val, by omega⟩)) planar
          (fun b k => x3 (ix4 i b ⟨k.val / 56, by omega⟩ ⟨k.val % 56, by omega⟩)) k := by
  have hmask : ∀ k : Fin 3136, masks x3 (resizedBy weights weights (selAttn x1)) (ix2 i k)
      = Ideal.logistic (blended (fun b j => x1 (ix3 0 ⟨100 + i.val, by omega⟩ ⟨b.val * 196 + j.val, by omega⟩)) planar
          (fun b k => x3 (ix4 i b ⟨k.val / 56, by omega⟩ ⟨k.val % 56, by omega⟩)) k) := fun k => by
    choose l hl using fun (b : Fin 5) (j : Fin 196) =>
      hx ⟨b.val * 196 + j.val, by omega⟩
    choose r hr using fun b : Fin 5 => resized_real (l b) k
    rw [masks_at x3 _ i k r fun b => (resized_at _ i b k (fun j => ((l b j : ℝ) : EReal)) fun x y =>
      (selAttn_at x1 i b x y).trans (hl b ⟨x.val * 14 + y.val, by omega⟩)).trans (hr b)]
    unfold blended
    simp only [hl, hr]
  unfold result row
  pointwise [joined]
  by_cases h7 : k.val < 7
  · rw [dif_pos h7]
    refine dite_congr rfl (fun h1 => column_at i _) fun h1 => dite_congr rfl (fun h4 => selBoxes_at x0 i _) fun h4 =>
      dite_congr rfl (fun h5 => selClasses_at x0 i _) fun h5 => ?_
    rw [dif_pos (show k.val - 1 - 4 - 1 < 1 by omega)]
    exact selTops_at x0 i _
  · rw [dif_neg h7, dif_neg (show ¬ k.val < 1 by omega), dif_neg (show ¬ k.val - 1 < 4 by omega),
      dif_neg (show ¬ k.val - 1 - 4 < 1 by omega), dif_neg (show ¬ k.val - 1 - 4 - 1 < 1 by omega), hmask]
    exact congrArg (fun k => Ideal.logistic (blended _ planar _ k)) (Fin.ext (by show k.val - 1 - 4 - 1 - 1 = k.val - 7; omega))

end Cert.ReferenceIdeal.Masks

end
-- ==== Proof.Equation.lean ====
/-
  The equation of the two results: element by element, each is the row of the same detection, where the attention
  logits of the 100 detections are real. The precondition says that they are.
-/
module

public import proofs.«01_k».proof.Defs
public import proofs.«01_k».proof.Proof.Ideal.Operands
public import proofs.«01_k».proof.Proof.Reference.Elements
public import proofs.«01_k».proof.Proof.Gen.Pre_finite_no_tie

@[expose] public section

set_option maxRecDepth 65536

noncomputable section

namespace Cert.Masks

open Idealize.ShloMosaic Idealize.ShloMosaic.TcCoe

/-! ## The precondition -/

section
open Cert.Pre_finite_no_tie Cert.Pre_finite_no_tie.Facts

/-- The precondition's second half at a place: the logit's absolute value is below infinity. -/
theorem below_at (x0 : FVec Ideal S1x20000x85 .f32) (x1 : FVec Ideal S1x20000x980 .f32) (x2 : FVec Ideal S1x5x160x160 .f32)
    (x3 : FVec Ideal S100x5x56x56 .f32) (i : Fin 100) (n : Fin 980) :
    (fn (F := Ideal) x0 x1 x2 x3).2 (ix2 i n)
      = BitVec.ofBool (decide (FloatOps.absf (F := Ideal) (φ := .f32) (x1 (ix3 0 ⟨100 + i.val, by omega⟩ n))
          < Ideal.ofBits .f32 0x7F800000#32)) := by
  pointwise [fn]

/-- An extended real of absolute value below infinity is a real. -/
theorem real_of_below (x : EReal)
    (h : BitVec.ofBool (decide (FloatOps.absf (F := Ideal) (φ := .f32) x < Ideal.ofBits .f32 0x7F800000#32)) = 1#1) :
    ∃ r : ℝ, x = (r : EReal) := by
  have h' : max x (-x) < (⊤ : EReal) := by
    rw [word_top] at h
    by_contra hn
    rw [decide_eq_false (show ¬ FloatOps.absf (F := Ideal) (φ := .f32) x < (⊤ : EReal) from hn)] at h
    exact absurd h (by decide)
  induction x using EReal.rec with
  | bot => simp at h'
  | top => simp at h'
  | coe r => exact ⟨r, rfl⟩

end

/-! ## The weights -/

/-- The kernel's weights are the reference's: the host's constant holds the words of the same eighths. -/
theorem axis_at (i : Fin 14) (j : Fin 56) :
    Cert.KernelIdeal.Masks.axis (ix2 i j) = ((weight i.val j.val / 8 : ℝ) : EReal) := by
  have e : Cert.KernelIdeal.lit0 (Cert.KernelIdeal.S14x56.rowMajor (ix2 i j)) = eighths (weight i.val j.val) := by
    revert i j; decide +kernel
  show Ideal.ofBits .f32 (Cert.KernelIdeal.lit0 (Cert.KernelIdeal.S14x56.rowMajor (ix2 i j))) = _
  rw [e, word_eighths _ (weight_mem i j)]

/-! ## The equation -/

open Cert.KernelIdeal in
/-- The kernel's result is the reference's, of the same arguments. -/
theorem equation (m : (ℓ : Loc nD τ sig) → Buf (Elt Ideal) ℓ) (h : Cert.Pre_KernelIdeal m) (c : Dev nD) :
    Cert.KernelIdeal.Masks.whole m c
      = Cert.ReferenceIdeal.Masks.result (m ((c.tc : Thread nD τ).loc main_arg0)) (m ((c.tc : Thread nD τ).loc main_arg1))
          (m ((c.tc : Thread nD τ).loc main_arg3)) := by
  funext y
  have e : y = ix2 (y 0) (y 1) := eq_ix2 y
  have hx : ∀ n : Fin 980, ∃ r : ℝ, (m ((c.tc : Thread nD τ).loc main_arg1) : Vec Ideal S1x20000x980 .f32)
      (ix3 0 ⟨100 + (y 0).val, by have : (y 0).val < 100 := (y 0).isLt; omega⟩ n) = (r : EReal) := fun n =>
    real_of_below _ ((below_at _ _ _ _ (y 0) n).symm.trans (congrFun (h c).2 _))
  refine Eq.trans ?_ ((congrArg _ e).trans (Cert.ReferenceIdeal.Masks.result_at _ _ _ (y 0) hx (y 1))).symm
  exact row_congr (fun a => Cert.KernelIdeal.Masks.rows_at m c (y 0) a)
    (fun b j => Cert.KernelIdeal.Masks.attn_at m c b (y 0) j)
    (fun j k => (Cert.KernelIdeal.Masks.weights_at m c j k).trans (congrArg₂ (· * ·) (axis_at _ _) (axis_at _ _)))
    (fun b k => Cert.KernelIdeal.Masks.bases_at m c b (y 0) k) rfl

end Cert.Masks

end
-- ==== Proof.lean ====
/-
  The claims: the frames of the three programs, that the idealized kernel is the kernel's own text, and that it computes
  what the reference computes.
-/
module

public import proofs.«01_k».proof.Defs
public import proofs.«01_k».proof.Proof.Kernel.Run
public import proofs.«01_k».proof.Proof.Equation

@[expose] public section

noncomputable section

namespace Cert.Proof

open Idealize.ShloMosaic Idealize.SL.Sem

/-- The idealized kernel's frame. -/
theorem frame_ideal : Cert.quiescent_KernelIdeal := fun m g _ =>
  θ_run_mono (Cert.KernelIdeal.Masks.run m g) fun _ h => ⟨fun c => (h.1 c).1, h.2⟩

/-- The reference's frame. -/
theorem frame_reference : Cert.quiescent_ReferenceIdeal := fun m g _ =>
  θ_run_mono (Cert.ReferenceIdeal.Masks.run m g) fun _ h => ⟨fun c => (h.1 c).1, h.2⟩

/-- The reference's frame where the precondition holds. -/
theorem frame_reference_pre : Cert.quiescent_ReferenceIdeal_pre_finite_no_tie := fun m g _ =>
  frame_reference m g trivial

/-- The two results are equal: the kernel's array, which the reference reaches too. -/
theorem equal : Cert.algebraic_KernelIdeal_ReferenceIdeal := fun m g m' g' hpre hargs =>
  ⟨fun c => Cert.KernelIdeal.Masks.whole m c,
    θ_run_mono (Cert.KernelIdeal.Masks.run m g) fun _ h c => ⟨(h.1 c).2, (h.1 c).1⟩,
    θ_run_mono (Cert.ReferenceIdeal.Masks.run m' g') fun r h c => by
      obtain ⟨a0, a1, a2, a3⟩ := hargs c
      obtain ⟨⟨k0, k1, k2, k3⟩, hv⟩ := h.1 c
      refine ⟨?_, k0, k1, k2, k3⟩
      rw [hv, a0, a1, a3]
      exact (Cert.Masks.equation m hpre c).symm⟩

/-- Everything claimed. -/
theorem claim : Cert.Claim :=
  ⟨Cert.Kernel.Gen.facts, Cert.KernelIdeal.Gen.facts, Cert.ReferenceIdeal.Gen.facts, Cert.Pre_finite_no_tie.Gen.facts,
    fun m g _ => Cert.Kernel.Masks.frame m g, fun m g _ => Cert.Kernel.Masks.frame m g, frame_ideal, frame_reference,
    frame_reference_pre, trivial, equal⟩

end Cert.Proof

end
